-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite [hPre_finite : Cert.Pre_finite.Facts] (m : (ℓ : Loc Cert.CtxIdeal.nD Cert.CtxIdeal.τ Cert.CtxIdeal.sig) → Buf (Elt Ideal) ℓ) : Prop :=
  ∀ c : Dev Cert.CtxIdeal.nD,
    (Cert.Pre_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1))).1 = (fun _ => 1#1)
    ∧ (Cert.Pre_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1))).2 = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite [hPre_finite : Cert.Pre_finite.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1))).1 = (fun _ => 1#1)
    ∧ (Cert.Pre_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1))).2 = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ r.2.sem = fun _ => 0)

def quiescent_CtxIdeal_pre_finite [hCtxIdeal : Cert.CtxIdeal.Facts] [hPre_finite : Cert.Pre_finite.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1))
      ∧ r.2.sem = fun _ => 0)

def quiescent_CtxRefIdeal_pre_finite [hCtxRefIdeal : Cert.CtxRefIdeal.Facts] [hPre_finite : Cert.Pre_finite.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v36) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v13) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v13) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v47) = v0 c
          ∧ r.2.mem ((c.tc : Thread Cert.InProjRefIdeal.nD Cert.InProjRefIdeal.τ).loc Cert.InProjRefIdeal.main_v51) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_Ctx_CtxIdeal : Prop :=
  True

def algebraic_CtxIdeal_CtxRefIdeal_pre_finite [hCtxIdeal : Cert.CtxIdeal.Facts] [hCtxRefIdeal : Cert.CtxRefIdeal.Facts] [hPre_finite : Cert.Pre_finite.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v31) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1))

def Claim : Prop :=
  ∃ (hMerge : Cert.Merge.Facts) (hMergeIdeal : Cert.MergeIdeal.Facts) (hMergeRefIdeal : Cert.MergeRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts) (hInProj : Cert.InProj.Facts) (hInProjIdeal : Cert.InProjIdeal.Facts) (hInProjRefIdeal : Cert.InProjRefIdeal.Facts) (hCtx : Cert.Ctx.Facts) (hCtxIdeal : Cert.CtxIdeal.Facts) (hCtxRefIdeal : Cert.CtxRefIdeal.Facts) (hPre_finite : Cert.Pre_finite.Facts),
    quiescent_Merge (hMerge := hMerge)
    ∧ quiescent_MergeIdeal (hMergeIdeal := hMergeIdeal)
    ∧ quiescent_MergeRefIdeal (hMergeRefIdeal := hMergeRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ctx (hCtx := hCtx)
    ∧ quiescent_CtxIdeal (hCtxIdeal := hCtxIdeal)
    ∧ quiescent_CtxIdeal_pre_finite (hCtxIdeal := hCtxIdeal) (hPre_finite := hPre_finite)
    ∧ quiescent_CtxRefIdeal (hCtxRefIdeal := hCtxRefIdeal)
    ∧ quiescent_CtxRefIdeal_pre_finite (hCtxRefIdeal := hCtxRefIdeal) (hPre_finite := hPre_finite)
    ∧ preserves_Merge_MergeIdeal
    ∧ algebraic_MergeIdeal_MergeRefIdeal (hMergeIdeal := hMergeIdeal) (hMergeRefIdeal := hMergeRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
    ∧ preserves_InProj_InProjIdeal
    ∧ algebraic_InProjIdeal_InProjRefIdeal (hInProjIdeal := hInProjIdeal) (hInProjRefIdeal := hInProjRefIdeal)
    ∧ preserves_Ctx_CtxIdeal
    ∧ algebraic_CtxIdeal_CtxRefIdeal_pre_finite (hCtxIdeal := hCtxIdeal) (hCtxRefIdeal := hCtxRefIdeal) (hPre_finite := hPre_finite)
-- ==== Pre_finite.lean ====
abbrev S2048x15360 : Shape := ⟨2, ![2048, 15360]⟩
abbrev S16 : Shape := ⟨1, ![16]⟩
abbrev S2048x2560 : Shape := ⟨2, ![2048, 2560]⟩
abbrev S_ : Shape := ⟨0, ![]⟩

class Facts : Prop where
  slices_S2048x15360_S2048x2560_0_0 : S2048x15360.Slices ![0, 0] S2048x2560
  bitsLt_bf16_f32 : FTy.bits .bf16 < FTy.bits .f32
  bcast_S_S2048x2560 : S_.BroadcastsInDim S2048x2560 (![] : Fin 0 → Fin S2048x2560.rank)
  bcast_S_S16 : S_.BroadcastsInDim S16 (![] : Fin 0 → Fin S16.rank)

variable [Facts]

def fn {F : FTy → Type} [FloatOps F] (main_arg0 : FVec F S2048x15360 .bf16) (main_arg1 : FVec F S16 .f32) : IVec S2048x2560 1 × IVec S16 1 :=
  let main_v0 : FVec F S2048x2560 .bf16 := (extractStridedSlice S2048x2560 ![0, 0] · slices_S2048x15360_S2048x2560_0_0) main_arg0
  let main_v1 : FVec F S2048x2560 .f32 := (extf .f32 · bitsLt_bf16_f32) main_v0
  let main_v2 : FVec F S2048x2560 .f32 := Host.absf main_v1
  let main_cst : FVec F S_ .f32 := constant S_ .f32 0x7F800000#32
  let main_v3 : FVec F S2048x2560 .f32 := broadcastInDim S2048x2560 ![] bcast_S_S2048x2560 main_cst
  let main_v4 : IVec S2048x2560 1 := cmpf .olt main_v2 main_v3
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  (main_v4, main_v7)
-- ==== Merge.lean ====
abbrev S32768x2048 : Shape := ⟨2, ![32768, 2048]⟩
abbrev S32768x15360 : Shape := ⟨2, ![32768, 15360]⟩
abbrev S4x2048x2048 : Shape := ⟨3, ![4, 2048, 2048]⟩
abbrev S1024x2048 : Shape := ⟨2, ![1024, 2048]⟩
abbrev S1024x1024 : Shape := ⟨2, ![1024, 1024]⟩
abbrev S1x2048x1024 : Shape := ⟨3, ![1, 2048, 1024]⟩
abbrev S256x1024 : Shape := ⟨2, ![256, 1024]⟩
abbrev S256x2048 : Shape := ⟨2, ![256, 2048]⟩
abbrev S2048x1024 : Shape := ⟨2, ![2048, 1024]⟩

abbrev nBuf : Space → Nat
  | .hbm => 6
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x15360, .bf16⟩
  | .hbm, ⟨3, _⟩ => ⟨S4x2048x2048, .bf16⟩
  | .hbm, ⟨4, _⟩ => ⟨S4x2048x2048, .bf16⟩
  | .hbm, ⟨5, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1024x1024, .bf16⟩
  | .local _ .vmem, ⟨13, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S32768x2048 : Shape := ⟨2, ![32768, 2048]⟩
abbrev S32768x15360 : Shape := ⟨2, ![32768, 15360]⟩
abbrev S4x2048x2048 : Shape := ⟨3, ![4, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 39
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x15360, .bf16⟩
  | .hbm, ⟨3, _⟩ => ⟨S4x2048x2048, .bf16⟩
  | .hbm, ⟨4, _⟩ => ⟨S4x2048x2048, .bf16⟩
  | .hbm, ⟨5, _⟩ => ⟨S32768x2048, .bf16⟩
  | .hbm, ⟨6, _⟩ => ⟨S32768x2048, .f32⟩
  | .hbm, ⟨7, _⟩ => ⟨S32768x2048, .bf16⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S1x2048x2048, .bf16⟩
  | .hbm, ⟨19, _⟩ => ⟨S2048x2048, .bf16⟩
  | .hbm, ⟨20, _⟩ => ⟨S2048x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S1x2048x2048, .bf16⟩
  | .hbm, ⟨33, _⟩ => ⟨S2048x2048, .bf16⟩
  | .hbm, ⟨34, _⟩ => ⟨S2048x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Up.lean ====
abbrev S32768x2048 : Shape := ⟨2, ![32768, 2048]⟩
abbrev S16x6x2048 : Shape := ⟨3, ![16, 6, 2048]⟩
abbrev S1x2048 : Shape := ⟨2, ![1, 2048]⟩
abbrev S4x2048x11264 : Shape := ⟨3, ![4, 2048, 11264]⟩
abbrev S32768x5632 : Shape := ⟨2, ![32768, 5632]⟩
abbrev S1024x2048 : Shape := ⟨2, ![1024, 2048]⟩
abbrev S1x6x2048 : Shape := ⟨3, ![1, 6, 2048]⟩
abbrev S1x2048x512 : Shape := ⟨3, ![1, 2048, 512]⟩
abbrev S1024x512 : Shape := ⟨2, ![1024, 512]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩

abbrev nBuf : Space → Nat
  | .hbm => 5
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S16x6x2048, .f32⟩
  | .hbm, ⟨2, _⟩ => ⟨S1x2048, .f32⟩
  | .hbm, ⟨3, _⟩ => ⟨S4x2048x11264, .bf16⟩
  | .hbm, ⟨4, _⟩ => ⟨S32768x5632, .bf16⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S32768x2048 : Shape := ⟨2, ![32768, 2048]⟩
abbrev S16x6x2048 : Shape := ⟨3, ![16, 6, 2048]⟩
abbrev S1x2048 : Shape := ⟨2, ![1, 2048]⟩
abbrev S4x2048x11264 : Shape := ⟨3, ![4, 2048, 11264]⟩
abbrev S8x1x2048 : Shape := ⟨3, ![8, 1, 2048]⟩
abbrev S8x2048 : Shape := ⟨2, ![8, 2048]⟩
abbrev S8x4096x2048 : Shape := ⟨3, ![8, 4096, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S8x4096x11264 : Shape := ⟨3, ![8, 4096, 11264]⟩
abbrev S8x4096x5632 : Shape := ⟨3, ![8, 4096, 5632]⟩
abbrev S32768x5632 : Shape := ⟨2, ![32768, 5632]⟩

abbrev nBuf : Space → Nat
  | .hbm => 53
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x6x2048, .f32⟩
  | .hbm, ⟨2, _⟩ => ⟨S1x2048, .f32⟩
  | .hbm, ⟨3, _⟩ => ⟨S4x2048x11264, .bf16⟩
  | .hbm, ⟨4, _⟩ => ⟨S8x1x2048, .f32⟩
  | .hbm, ⟨5, _⟩ => ⟨S8x2048, .f32⟩
  | .hbm, ⟨6, _⟩ => ⟨S8x1x2048, .f32⟩
  | .hbm, ⟨7, _⟩ => ⟨S8x1x2048, .f32⟩
  | .hbm, ⟨8, _⟩ => ⟨S8x2048, .f32⟩
  | .hbm, ⟨9, _⟩ => ⟨S8x1x2048, .f32⟩
  | .hbm, ⟨10, _⟩ => ⟨S8x4096x2048, .f32⟩
  | .hbm, ⟨11, _⟩ => ⟨S2048, .f32⟩
  | .hbm, ⟨12, _⟩ => ⟨S8x4096x2048, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x2048, .f32⟩
  | .hbm, ⟨24, _⟩ => ⟨S8x4096x2048, .f32⟩
  | .hbm, ⟨25, _⟩ => ⟨S1x1x2048, .f32⟩
  | .hbm, ⟨26, _⟩ => ⟨S8x4096x2048, .f32⟩
  | .hbm, ⟨27, _⟩ => ⟨S8x4096x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S1x2048x11264, .bf16⟩
  | .hbm, ⟨36, _⟩ => ⟨S2048x11264, .bf16⟩
  | .hbm, ⟨37, _⟩ => ⟨S2048x11264, .f32⟩
  | .hbm, ⟨38, _⟩ => ⟨S8x4096x11264, .f32⟩
  | .hbm, ⟨39, _⟩ => ⟨S8x4096x5632, .f32⟩
  | .hbm, ⟨40, _⟩ => ⟨S8x4096x5632, .f32⟩
  | .hbm, ⟨41, _⟩ => ⟨S8x4096x5632, .f32⟩
  | .hbm, ⟨42, _⟩ => ⟨S8x4096x5632, .f32⟩
  | .hbm, ⟨43, _⟩ => ⟨S_, .f32⟩
  | .hbm, ⟨44, _⟩ => ⟨S8x4096x5632, .f32⟩
  | .hbm, ⟨45, _⟩ => ⟨S8x4096x5632, .f32⟩
  | .hbm, ⟨46, _⟩ => ⟨S_, .f32⟩
  | .hbm, ⟨47, _⟩ => ⟨S8x4096x5632, .f32⟩
  | .hbm, ⟨48, _⟩ => ⟨S8x4096x5632, .f32⟩
  | .hbm, ⟨49, _⟩ => ⟨S8x4096x5632, .f32⟩
  | .hbm, ⟨50, _⟩ => ⟨S8x4096x5632, .f32⟩
  | .hbm, ⟨51, _⟩ => ⟨S8x4096x5632, .bf16⟩
  | .hbm, ⟨52, _⟩ => ⟨S32768x5632, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Down.lean ====
abbrev S32768x5632 : Shape := ⟨2, ![32768, 5632]⟩
abbrev S4x5632x2048 : Shape := ⟨3, ![4, 5632, 2048]⟩
abbrev S32768x2048 : Shape := ⟨2, ![32768, 2048]⟩
abbrev S16x6x2048 : Shape := ⟨3, ![16, 6, 2048]⟩
abbrev S1024x5632 : Shape := ⟨2, ![1024, 5632]⟩
abbrev S1x5632x512 : Shape := ⟨3, ![1, 5632, 512]⟩
abbrev S1024x512 : Shape := ⟨2, ![1024, 512]⟩
abbrev S1x6x512 : Shape := ⟨3, ![1, 6, 512]⟩
abbrev S1x1x512 : Shape := ⟨3, ![1, 1, 512]⟩
abbrev S1x512 : Shape := ⟨2, ![1, 512]⟩
abbrev S5632x512 : Shape := ⟨2, ![5632, 512]⟩

abbrev nBuf : Space → Nat
  | .hbm => 5
  | .vmem => 10
  | .smem => 0
  | _ => 0

abbrev bufTy : (tb : Table) → Fin (tcTables nBuf tb) → BufTy
  | .hbm, ⟨0, _⟩ => ⟨S32768x5632, .bf16⟩
  | .hbm, ⟨1, _⟩ => ⟨S4x5632x2048, .bf16⟩
  | .hbm, ⟨2, _⟩ => ⟨S32768x2048, .f32⟩
  | .hbm, ⟨3, _⟩ => ⟨S16x6x2048, .f32⟩
  | .hbm, ⟨4, _⟩ => ⟨S32768x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1x6x512, .f32⟩
  | .local _ .vmem, ⟨7, _⟩ => ⟨S1x6x512, .f32⟩
  | .local _ .vmem, ⟨8, _⟩ => ⟨S1024x512, .f32⟩
  | .local _ .vmem, ⟨9, _⟩ => ⟨S1024x512, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S32768x5632 : Shape := ⟨2, ![32768, 5632]⟩
abbrev S4x5632x2048 : Shape := ⟨3, ![4, 5632, 2048]⟩
abbrev S32768x2048 : Shape := ⟨2, ![32768, 2048]⟩
abbrev S16x6x2048 : Shape := ⟨3, ![16, 6, 2048]⟩
abbrev S8x1x2048 : Shape := ⟨3, ![8, 1, 2048]⟩
abbrev S8x2048 : Shape := ⟨2, ![8, 2048]⟩
abbrev S8x4096x5632 : Shape := ⟨3, ![8, 4096, 5632]⟩
abbrev S1x5632x2048 : Shape := ⟨3, ![1, 5632, 2048]⟩
abbrev S5632x2048 : Shape := ⟨2, ![5632, 2048]⟩
abbrev S8x4096x2048 : Shape := ⟨3, ![8, 4096, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S4x5632x2048, .bf16⟩
  | .hbm, ⟨2, _⟩ => ⟨S32768x2048, .f32⟩
  | .hbm, ⟨3, _⟩ => ⟨S16x6x2048, .f32⟩
  | .hbm, ⟨4, _⟩ => ⟨S8x1x2048, .f32⟩
  | .hbm, ⟨5, _⟩ => ⟨S8x2048, .f32⟩
  | .hbm, ⟨6, _⟩ => ⟨S8x1x2048, .f32⟩
  | .hbm, ⟨7, _⟩ => ⟨S32768x5632, .f32⟩
  | .hbm, ⟨8, _⟩ => ⟨S8x4096x5632, .f32⟩
  | .hbm, ⟨9, _⟩ => ⟨S1x5632x2048, .bf16⟩
  | .hbm, ⟨10, _⟩ => ⟨S5632x2048, .bf16⟩
  | .hbm, ⟨11, _⟩ => ⟨S5632x2048, .f32⟩
  | .hbm, ⟨12, _⟩ => ⟨S8x4096x2048, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Out.lean ====
abbrev S32768x2048 : Shape := ⟨2, ![32768, 2048]⟩
abbrev S4x2048x2048 : Shape := ⟨3, ![4, 2048, 2048]⟩
abbrev S16x6x2048 : Shape := ⟨3, ![16, 6, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1x1024 : Shape := ⟨2, ![1, 1024]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S4x2048x2048, .bf16⟩
  | .hbm, ⟨2, _⟩ => ⟨S32768x2048, .f32⟩
  | .hbm, ⟨3, _⟩ => ⟨S16x6x2048, .f32⟩
  | .hbm, ⟨4, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x1024, .f32⟩
  | .local _ .vmem, ⟨9, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S32768x2048 : Shape := ⟨2, ![32768, 2048]⟩
abbrev S4x2048x2048 : Shape := ⟨3, ![4, 2048, 2048]⟩
abbrev S16x6x2048 : Shape := ⟨3, ![16, 6, 2048]⟩
abbrev S8x1x2048 : Shape := ⟨3, ![8, 1, 2048]⟩
abbrev S8x2048 : Shape := ⟨2, ![8, 2048]⟩
abbrev S8x4096x2048 : Shape := ⟨3, ![8, 4096, 2048]⟩
abbrev S1x2048x2048 : Shape := ⟨3, ![1, 2048, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x2048, .bf16⟩
  | .hbm, ⟨2, _⟩ => ⟨S32768x2048, .f32⟩
  | .hbm, ⟨3, _⟩ => ⟨S16x6x2048, .f32⟩
  | .hbm, ⟨4, _⟩ => ⟨S8x1x2048, .f32⟩
  | .hbm, ⟨5, _⟩ => ⟨S8x2048, .f32⟩
  | .hbm, ⟨6, _⟩ => ⟨S8x1x2048, .f32⟩
  | .hbm, ⟨7, _⟩ => ⟨S32768x2048, .f32⟩
  | .hbm, ⟨8, _⟩ => ⟨S8x4096x2048, .f32⟩
  | .hbm, ⟨9, _⟩ => ⟨S1x2048x2048, .bf16⟩
  | .hbm, ⟨10, _⟩ => ⟨S2048x2048, .bf16⟩
  | .hbm, ⟨11, _⟩ => ⟨S2048x2048, .f32⟩
  | .hbm, ⟨12, _⟩ => ⟨S8x4096x2048, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Norm.lean ====
abbrev S32768x2048 : Shape := ⟨2, ![32768, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S32768x2048 : Shape := ⟨2, ![32768, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InProj.lean ====
abbrev S32768x2048 : Shape := ⟨2, ![32768, 2048]⟩
abbrev S16x6x2048 : Shape := ⟨3, ![16, 6, 2048]⟩
abbrev S1x2048 : Shape := ⟨2, ![1, 2048]⟩
abbrev S4x2048x15360 : Shape := ⟨3, ![4, 2048, 15360]⟩
abbrev S4x2048x128 : Shape := ⟨3, ![4, 2048, 128]⟩
abbrev S32768x128 : Shape := ⟨2, ![32768, 128]⟩
abbrev S32768x15360 : Shape := ⟨2, ![32768, 15360]⟩
abbrev S1024x2048 : Shape := ⟨2, ![1024, 2048]⟩
abbrev S1x6x2048 : Shape := ⟨3, ![1, 6, 2048]⟩
abbrev S1x2048x1536 : Shape := ⟨3, ![1, 2048, 1536]⟩
abbrev S1x2048x128 : Shape := ⟨3, ![1, 2048, 128]⟩
abbrev S1024x128 : Shape := ⟨2, ![1024, 128]⟩
abbrev S1024x1536 : Shape := ⟨2, ![1024, 1536]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048x128 : Shape := ⟨2, ![2048, 128]⟩
abbrev S256x128 : Shape := ⟨2, ![256, 128]⟩
abbrev S2048x1536 : Shape := ⟨2, ![2048, 1536]⟩
abbrev S256x1536 : Shape := ⟨2, ![256, 1536]⟩
abbrev S256x1024 : Shape := ⟨2, ![256, 1024]⟩
abbrev S256x512 : Shape := ⟨2, ![256, 512]⟩

abbrev nBuf : Space → Nat
  | .hbm => 9
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S16x6x2048, .f32⟩
  | .hbm, ⟨2, _⟩ => ⟨S1x2048, .f32⟩
  | .hbm, ⟨3, _⟩ => ⟨S4x2048x15360, .bf16⟩
  | .hbm, ⟨4, _⟩ => ⟨S4x2048x128, .bf16⟩
  | .hbm, ⟨5, _⟩ => ⟨S32768x128, .f32⟩
  | .hbm, ⟨6, _⟩ => ⟨S32768x128, .f32⟩
  | .hbm, ⟨7, _⟩ => ⟨S32768x15360, .bf16⟩
  | .hbm, ⟨8, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S1x2048x1536, .bf16⟩
  | .local _ .vmem, ⟨6, _⟩ => ⟨S1x2048x1536, .bf16⟩
  | .local _ .vmem, ⟨7, _⟩ => ⟨S1x2048x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1536, .bf16⟩
  | .local _ .vmem, ⟨13, _⟩ => ⟨S1024x1536, .bf16⟩
  | .local _ .vmem, ⟨14, _⟩ => ⟨S1024x128, .f32⟩
  | .local _ .vmem, ⟨15, _⟩ => ⟨S1024x128, .f32⟩
  | .local _ .vmem, ⟨16, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .eq arg1 c1_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c2_i32 : BitVec 32 := 2#32
  let v11 : BitVec 1 := Scalar.cmpi .sge arg1 c2_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== InProjRefIdeal.lean ====
abbrev S32768x2048 : Shape := ⟨2, ![32768, 2048]⟩
abbrev S16x6x2048 : Shape := ⟨3, ![16, 6, 2048]⟩
abbrev S1x2048 : Shape := ⟨2, ![1, 2048]⟩
abbrev S4x2048x15360 : Shape := ⟨3, ![4, 2048, 15360]⟩
abbrev S4x2048x128 : Shape := ⟨3, ![4, 2048, 128]⟩
abbrev S32768x128 : Shape := ⟨2, ![32768, 128]⟩
abbrev S8x1x2048 : Shape := ⟨3, ![8, 1, 2048]⟩
abbrev S8x2048 : Shape := ⟨2, ![8, 2048]⟩
abbrev S8x4096x2048 : Shape := ⟨3, ![8, 4096, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S1x2048x15360 : Shape := ⟨3, ![1, 2048, 15360]⟩
abbrev S2048x15360 : Shape := ⟨2, ![2048, 15360]⟩
abbrev S32768x15360 : Shape := ⟨2, ![32768, 15360]⟩
abbrev S32768x2560 : Shape := ⟨2, ![32768, 2560]⟩
abbrev S32768x20x128 : Shape := ⟨3, ![32768, 20, 128]⟩
abbrev S32768x20x64 : Shape := ⟨3, ![32768, 20, 64]⟩
abbrev S32768x1x128 : Shape := ⟨3, ![32768, 1, 128]⟩
abbrev S32768x12800 : Shape := ⟨2, ![32768, 12800]⟩
abbrev S1x2048x128 : Shape := ⟨3, ![1, 2048, 128]⟩
abbrev S2048x128 : Shape := ⟨2, ![2048, 128]⟩

abbrev nBuf : Space → Nat
  | .hbm => 63
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x6x2048, .f32⟩
  | .hbm, ⟨2, _⟩ => ⟨S1x2048, .f32⟩
  | .hbm, ⟨3, _⟩ => ⟨S4x2048x15360, .bf16⟩
  | .hbm, ⟨4, _⟩ => ⟨S4x2048x128, .bf16⟩
  | .hbm, ⟨5, _⟩ => ⟨S32768x128, .f32⟩
  | .hbm, ⟨6, _⟩ => ⟨S32768x128, .f32⟩
  | .hbm, ⟨7, _⟩ => ⟨S8x1x2048, .f32⟩
  | .hbm, ⟨8, _⟩ => ⟨S8x2048, .f32⟩
  | .hbm, ⟨9, _⟩ => ⟨S8x1x2048, .f32⟩
  | .hbm, ⟨10, _⟩ => ⟨S8x1x2048, .f32⟩
  | .hbm, ⟨11, _⟩ => ⟨S8x2048, .f32⟩
  | .hbm, ⟨12, _⟩ => ⟨S8x1x2048, .f32⟩
  | .hbm, ⟨13, _⟩ => ⟨S8x4096x2048, .f32⟩
  | .hbm, ⟨14, _⟩ => ⟨S2048, .f32⟩
  | .hbm, ⟨15, _⟩ => ⟨S8x4096x2048, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x2048, .f32⟩
  | .hbm, ⟨27, _⟩ => ⟨S8x4096x2048, .f32⟩
  | .hbm, ⟨28, _⟩ => ⟨S1x1x2048, .f32⟩
  | .hbm, ⟨29, _⟩ => ⟨S8x4096x2048, .f32⟩
  | .hbm, ⟨30, _⟩ => ⟨S8x4096x2048, .f32⟩
  | .hbm, ⟨31, _⟩ => ⟨S_, .f32⟩
  | .hbm, ⟨32, _⟩ => ⟨S8x1x2048, .f32⟩
  | .hbm, ⟨33, _⟩ => ⟨S8x1x2048, .f32⟩
  | .hbm, ⟨34, _⟩ => ⟨S8x4096x2048, .f32⟩
  | .hbm, ⟨35, _⟩ => ⟨S8x4096x2048, .f32⟩
  | .hbm, ⟨36, _⟩ => ⟨S8x4096x2048, .f32⟩
  | .hbm, ⟨37, _⟩ => ⟨S8x4096x2048, .f32⟩
  | .hbm, ⟨38, _⟩ => ⟨S32768x2048, .f32⟩
  | .hbm, ⟨39, _⟩ => ⟨S1x2048x15360, .bf16⟩
  | .hbm, ⟨40, _⟩ => ⟨S2048x15360, .bf16⟩
  | .hbm, ⟨41, _⟩ => ⟨S2048x15360, .f32⟩
  | .hbm, ⟨42, _⟩ => ⟨S32768x15360, .f32⟩
  | .hbm, ⟨43, _⟩ => ⟨S32768x2560, .f32⟩
  | .hbm, ⟨44, _⟩ => ⟨S32768x20x128, .f32⟩
  | .hbm, ⟨45, _⟩ => ⟨S32768x20x64, .f32⟩
  | .hbm, ⟨46, _⟩ => ⟨S32768x20x64, .f32⟩
  | .hbm, ⟨47, _⟩ => ⟨S32768x20x128, .f32⟩
  | .hbm, ⟨48, _⟩ => ⟨S32768x1x128, .f32⟩
  | .hbm, ⟨49, _⟩ => ⟨S32768x20x128, .f32⟩
  | .hbm, ⟨50, _⟩ => ⟨S32768x20x128, .f32⟩
  | .hbm, ⟨51, _⟩ => ⟨S32768x1x128, .f32⟩
  | .hbm, ⟨52, _⟩ => ⟨S32768x20x128, .f32⟩
  | .hbm, ⟨53, _⟩ => ⟨S32768x20x128, .f32⟩
  | .hbm, ⟨54, _⟩ => ⟨S32768x20x128, .f32⟩
  | .hbm, ⟨55, _⟩ => ⟨S32768x2560, .f32⟩
  | .hbm, ⟨56, _⟩ => ⟨S32768x12800, .f32⟩
  | .hbm, ⟨57, _⟩ => ⟨S32768x15360, .f32⟩
  | .hbm, ⟨58, _⟩ => ⟨S32768x15360, .bf16⟩
  | .hbm, ⟨59, _⟩ => ⟨S1x2048x128, .bf16⟩
  | .hbm, ⟨60, _⟩ => ⟨S2048x128, .bf16⟩
  | .hbm, ⟨61, _⟩ => ⟨S2048x128, .f32⟩
  | .hbm, ⟨62, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Ctx.lean ====
abbrev S2048x15360 : Shape := ⟨2, ![2048, 15360]⟩
abbrev S16 : Shape := ⟨1, ![16]⟩
abbrev S2048x2048 : Shape := ⟨2, ![2048, 2048]⟩
abbrev S256x512 : Shape := ⟨2, ![256, 512]⟩
abbrev S256x128 : Shape := ⟨2, ![256, 128]⟩
abbrev S1024x128 : Shape := ⟨2, ![1024, 128]⟩
abbrev S1024x256 : Shape := ⟨2, ![1024, 256]⟩
abbrev S1 : Shape := ⟨1, ![1]⟩
abbrev S256x1 : Shape := ⟨2, ![256, 1]⟩
abbrev S1024x1 : Shape := ⟨2, ![1024, 1]⟩
abbrev S1024 : Shape := ⟨1, ![1024]⟩

abbrev nBuf : Space → Nat
  | .hbm => 3
  | .vmem => 8
  | .smem => 1
  | _ => 0

abbrev bufTy : (tb : Table) → Fin (tcTables nBuf tb) → BufTy
  | .hbm, ⟨0, _⟩ => ⟨S2048x15360, .bf16⟩
  | .hbm, ⟨1, _⟩ => ⟨S16, .f32⟩
  | .hbm, ⟨2, _⟩ => ⟨S2048x2048, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x512, .bf16⟩
  | .local _ .vmem, ⟨7, _⟩ => ⟨S256x512, .bf16⟩
  | .local _ .smem, ⟨0, _⟩ => ⟨S16, .f32⟩
  | _, _ => ⟨S2048x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 1 → Nat :=
  let arg1 : BitVec 32 := BitVec.ofNat 32 (i 1).val
  let c4_i32 : BitVec 32 := 4#32
  let v10 : BitVec 32 := Scalar.muli arg1 c4_i32
  let v11 : BitVec 32 := Scalar.addi v10 c0_i32
  let v12 : Index := Scalar.indexCast v11
  ![v12.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxRefIdeal.lean ====
abbrev S2048x15360 : Shape := ⟨2, ![2048, 15360]⟩
abbrev S16 : Shape := ⟨1, ![16]⟩
abbrev S2048x2048 : Shape := ⟨2, ![2048, 2048]⟩
abbrev S8x256x4x4x128 : Shape := ⟨5, ![8, 256, 4, 4, 128]⟩
abbrev S2048x512 : Shape := ⟨2, ![2048, 512]⟩
abbrev S8x256x4x128 : Shape := ⟨4, ![8, 256, 4, 128]⟩
abbrev S8x4x256x256x4 : Shape := ⟨5, ![8, 4, 256, 256, 4]⟩
abbrev S8x4x4x256x256 : Shape := ⟨5, ![8, 4, 4, 256, 256]⟩
abbrev S_ : Shape := ⟨0, ![]⟩
abbrev S4x4 : Shape := ⟨2, ![4, 4]⟩
abbrev S1x4x4x1 : Shape := ⟨4, ![1, 4, 4, 1]⟩
abbrev S8x4x4x256 : Shape := ⟨4, ![8, 4, 4, 256]⟩
abbrev S8x4x4x256x1 : Shape := ⟨5, ![8, 4, 4, 256, 1]⟩
abbrev S8x4x128x4x256 : Shape := ⟨5, ![8, 4, 128, 4, 256]⟩

abbrev nBuf : Space → Nat
  | .hbm => 37
  | .vmem => 0
  | .smem => 0
  | _ => 0

abbrev bufTy : (tb : Table) → Fin (tcTables nBuf tb) → BufTy
  | .hbm, ⟨0, _⟩ => ⟨S2048x15360, .bf16⟩
  | .hbm, ⟨1, _⟩ => ⟨S16, .f32⟩
  | .hbm, ⟨2, _⟩ => ⟨S2048x15360, .f32⟩
  | .hbm, ⟨3, _⟩ => ⟨S2048x2048, .f32⟩
  | .hbm, ⟨4, _⟩ => ⟨S8x256x4x4x128, .f32⟩
  | .hbm, ⟨5, _⟩ => ⟨S2048x512, .f32⟩
  | .hbm, ⟨6, _⟩ => ⟨S8x256x4x128, .f32⟩
  | .hbm, ⟨7, _⟩ => ⟨S2048x512, .f32⟩
  | .hbm, ⟨8, _⟩ => ⟨S8x256x4x128, .f32⟩
  | .hbm, ⟨9, _⟩ => ⟨S8x4x256x256x4, .f32⟩
  | .hbm, ⟨10, _⟩ => ⟨S8x4x4x256x256, .f32⟩
  | .hbm, ⟨11, _⟩ => ⟨S_, .f32⟩
  | .hbm, ⟨12, _⟩ => ⟨S8x4x4x256x256, .f32⟩
  | .hbm, ⟨13, _⟩ => ⟨S8x4x4x256x256, .f32⟩
  | .hbm, ⟨14, _⟩ => ⟨S4x4, .f32⟩
  | .hbm, ⟨15, _⟩ => ⟨S1x4x4x1, .f32⟩
  | .hbm, ⟨16, _⟩ => ⟨S_, .f32⟩
  | .hbm, ⟨17, _⟩ => ⟨S8x4x4x256, .f32⟩
  | .hbm, ⟨18, _⟩ => ⟨S8x4x4x256, .f32⟩
  | .hbm, ⟨19, _⟩ => ⟨S8x4x4x256, .f32⟩
  | .hbm, ⟨20, _⟩ => ⟨S8x4x4x256x1, .f32⟩
  | .hbm, ⟨21, _⟩ => ⟨S8x4x4x256x256, .f32⟩
  | .hbm, ⟨22, _⟩ => ⟨S8x4x4x256x256, .f32⟩
  | .hbm, ⟨23, _⟩ => ⟨S8x4x4x256x256, .f32⟩
  | .hbm, ⟨24, _⟩ => ⟨S_, .f32⟩
  | .hbm, ⟨25, _⟩ => ⟨S8x4x4x256, .f32⟩
  | .hbm, ⟨26, _⟩ => ⟨S8x4x4x256, .f32⟩
  | .hbm, ⟨27, _⟩ => ⟨S8x4x4x256, .f32⟩
  | .hbm, ⟨28, _⟩ => ⟨S8x4x4x256, .f32⟩
  | .hbm, ⟨29, _⟩ => ⟨S8x4x4x256, .f32⟩
  | .hbm, ⟨30, _⟩ => ⟨S8x4x4x256x1, .f32⟩
  | .hbm, ⟨31, _⟩ => ⟨S8x4x4x256x256, .f32⟩
  | .hbm, ⟨32, _⟩ => ⟨S8x4x4x256x256, .f32⟩
  | .hbm, ⟨33, _⟩ => ⟨S8x4x128x4x256, .f32⟩
  | .hbm, ⟨34, _⟩ => ⟨S8x256x4x4x128, .f32⟩
  | .hbm, ⟨35, _⟩ => ⟨S2048x2048, .f32⟩
  | .hbm, ⟨36, _⟩ => ⟨S2048x2048, .bf16⟩
  | _, _ => ⟨S2048x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Proof.Merge.lean ====
/-
  The merge of the two mixers. Each of the two outputs goes through its own projection and is weighted, place by
  place, by the logistic function of its gate columns of the input projection.
-/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Mixers

open Cert.MergeIdeal

/-- The logistic function, `1 / (1 + e⁻ˣ)`. -/
def gate (x : EReal) : EReal := Ideal.div 1 (1 + Ideal.exp (-x))

/-- The merged output, place by place; `z` keeps the gates of the two mixers in its last 4096 columns. -/
def merged (att dn : FVec Ideal S32768x2048 .bf16) (z : FVec Ideal S32768x15360 .bf16)
    (wa wd : FVec Ideal S4x2048x2048 .bf16) : FVec Ideal S32768x2048 .bf16 := fun y =>
  gate (z (ix2 (y 0) ⟨11264 + (y 1).val, by idx_bounds y; omega⟩))
      * (∑ k : Fin 2048, att (ix2 (y 0) k) * wa (ix3 ⟨0, by omega⟩ k (y 1)))
    + gate (z (ix2 (y 0) ⟨13312 + (y 1).val, by idx_bounds y; omega⟩))
      * ∑ k : Fin 2048, dn (ix2 (y 0) k) * wd (ix3 ⟨0, by omega⟩ k (y 1))

section Kernel

open Cert.MergeIdeal.Gen

/-- The tile that the grid point `(i, j)` writes and the blocks that it reads. -/
theorem tiles : ∀ t : Fin grid0.N,
    win0_0.index t = ![(grid0.coords t 0).val, 0] ∧ win0_1.index t = ![(grid0.coords t 0).val, 0]
    ∧ win0_2.index t = ![(grid0.coords t 0).val, 11 + (grid0.coords t 1).val]
    ∧ win0_3.index t = ![(grid0.coords t 0).val, 13 + (grid0.coords t 1).val]
    ∧ win0_4.index t = ![0, 0, (grid0.coords t 1).val] ∧ win0_5.index t = ![0, 0, (grid0.coords t 1).val]
    ∧ win0_6.index t = ![(grid0.coords t 0).val, (grid0.coords t 1).val]
    ∧ (grid0.coords t 0).val < 32 ∧ (grid0.coords t 1).val < 2 := by decide +kernel

/-- A group of 256 rows of a tile, at an index. -/
theorem rows_apply (g : Vec Ideal S256x1024 .bf16) (a : Vec Ideal S256x2048 .bf16) (w : Vec Ideal S1x2048x1024 .bf16)
    (g' : Vec Ideal S256x1024 .bf16) (a' : Vec Ideal S256x2048 .bf16) (w' : Vec Ideal S1x2048x1024 .bf16)
    (x : S256x1024.Idx) :
    k0_pay2 g a w g' a' w' x = gate (g (ix2 (x 0) (x 1))) * (∑ k : Fin 2048, a (ix2 (x 0) k) * w (ix3 ⟨0, by omega⟩ k (x 1)))
      + gate (g' (ix2 (x 0) (x 1))) * ∑ k : Fin 2048, a' (ix2 (x 0) k) * w' (ix3 ⟨0, by omega⟩ k (x 1)) := by
  unfold gate
  idx_vars x
  pointwise [k0_pay2, zero_sub]

variable (m : (ℓ : Loc nD τ sig) → Buf (Elt Ideal) ℓ) (c : Dev nD)

/-- What the kernel's result array holds after the run. -/
theorem kernel_result : (dats m 0 c).arrAt 6 cfg0.N =
    merged (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨e0, e1, e2, e3, e4, e5, e6, hi, hj⟩ := tiles t
  blk_simp
  rw [after0_6]
  unfold out0_6
  unfold merged
  canon_tiles x h
  all_goals
    refine (rows_apply _ _ _ _ _ _ x).trans ?_
    pointwise
    blk_point [iblk, V, e0, e1, e2, e3, e4, e5, e6]

end Kernel

section Reference

open Cert.MergeRefIdeal.Read

/-- The reference's result. -/
theorem reference_result (att dn : FVec Ideal S32768x2048 .bf16) (z : FVec Ideal S32768x15360 .bf16)
    (wa wd : FVec Ideal S4x2048x2048 .bf16) :
    val_main_v29 (F := Ideal) att dn z wa wd = merged att dn z wa wd := by
  funext y
  unfold merged gate
  unfold val_main_v29 val_main_v28 val_main_v27 val_main_v26 val_main_v25 val_main_v24 val_main_v23 val_main_v22
    val_main_v21 val_main_v20 val_main_v19 val_main_v18 val_main_v17 val_main_v16 val_main_v15 val_main_v14
    val_main_v13 val_main_v12 val_main_v11 val_main_v10 val_main_v9 val_main_v8 val_main_v7 val_main_v6
    val_main_v5 val_main_v4 val_main_v3 val_main_v2 val_main_v1 val_main_v0 val_main_cst val_main_cst_0
    val_main_cst_1 val_main_cst_2
  pointwise

end Reference

/-- Both programs from agreeing arguments end with the same result. -/
theorem agree : Cert.algebraic_MergeIdeal_MergeRefIdeal := fun m ρ m' ρ' _ hag =>
  ⟨fun c => merged (m ((c : Thread nD τ).loc main_arg0)) (m ((c : Thread nD τ).loc main_arg1)) (m ((c : Thread nD τ).loc main_arg2)) (m ((c : Thread nD τ).loc main_arg3)) (m ((c : Thread nD τ).loc main_arg4)),
    (θ_run Cert.MergeIdeal.defs _ _).mono (fun _ h c => ⟨(h c).1.trans (kernel_result m c), (h c).2⟩)
      (Cert.MergeIdeal.Value.run_blocks m ρ),
    (θ_run Cert.MergeRefIdeal.defs _ _).mono (fun _ h c => ⟨(h c).1.trans (by
        rw [(hag c).1, (hag c).2.1, (hag c).2.2.1, (hag c).2.2.2.1, (hag c).2.2.2.2]
        exact (Cert.MergeRefIdeal.Read.val_main_v29_eq ..).trans (reference_result ..)), (h c).2⟩)
      (Cert.MergeRefIdeal.Value.run m' ρ')⟩

/-- The three programs run and leave their arguments alone. -/
theorem frame_kernel : Cert.quiescent_Merge := fun m ρ _ => Cert.Merge.Gen.frame m ρ
theorem frame_ideal : Cert.quiescent_MergeIdeal := fun m ρ _ => Cert.MergeIdeal.Gen.frame m ρ
theorem frame_reference : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

end Cert.Mixers

end
-- ==== Proof.FfnUp.lean ====
/-
  The feed-forward up projection. The first point of every row of tiles normalises its rows of the stream,
  shifts and scales them by the batch entry's modulation and keeps them in the carried buffer; the other points
  of the row find them there. Every point gives a tile of `silu(h · gate) · (h · up)`.
-/
module

public import proofs.«01_k».proof.Defs
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.Pointwise
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem

namespace Cert.FfnUp

open Cert.UpIdeal

/-- The normalised and modulated stream, place by place: row `r` belongs to batch entry `r / 4096`. -/
def hidden (x : FVec Ideal S32768x2048 .f32) (mods : FVec Ideal S16x6x2048 .f32) (g : FVec Ideal S1x2048 .f32) :
    FVec Ideal S32768x2048 .f32 := fun y =>
  x y * Ideal.rsqrt (Ideal.div (∑ k : Fin 2048, x (ix2 (y 0) k) * x (ix2 (y 0) k)) (Ideal.ofBits .f32 0x45000000#32)
      + Ideal.ofBits .f32 0x358637BD#32) * g (ix2 ⟨0, by omega⟩ (y 1))
    * (1 + mods (ix3 ⟨(y 0).val / 4096, by idx_bounds y; omega⟩ ⟨4, by omega⟩ (y 1)))
    + mods (ix3 ⟨(y 0).val / 4096, by idx_bounds y; omega⟩ ⟨3, by omega⟩ (y 1))

/-- `x / (1 + e⁻ˣ)`. -/
def silu (x : EReal) : EReal := x * Ideal.div 1 (1 + Ideal.exp (-x))

/-- The gated product from the hidden rows. -/
def gated (h : FVec Ideal S32768x2048 .f32) (w : FVec Ideal S4x2048x11264 .bf16) : FVec Ideal S32768x5632 .bf16 := fun y =>
  silu (∑ k : Fin 2048, h (ix2 (y 0) k) * w (ix3 ⟨0, by omega⟩ k ⟨(y 1).val, by idx_bounds y; omega⟩))
    * ∑ k : Fin 2048, h (ix2 (y 0) k) * w (ix3 ⟨0, by omega⟩ k ⟨5632 + (y 1).val, by idx_bounds y; omega⟩)

/-- The step's result. -/
def activation (x : FVec Ideal S32768x2048 .f32) (mods : FVec Ideal S16x6x2048 .f32) (g : FVec Ideal S1x2048 .f32)
    (w : FVec Ideal S4x2048x11264 .bf16) : FVec Ideal S32768x5632 .bf16 := gated (hidden x mods g) w

section Kernel

open Cert.UpIdeal.Gen

/-- The tile that the grid point `(i, j)` writes and the blocks that it reads. -/
theorem tiles : ∀ t : Fin grid0.N,
    win0_0.index t = ![t.val / 11, 0] ∧ win0_1.index t = ![t.val / 11 / 4, 0, 0]
    ∧ win0_2.index t = ![0, 0] ∧ win0_3.index t = ![0, 0, t.val % 11]
    ∧ win0_4.index t = ![0, 0, 11 + t.val % 11] ∧ win0_5.index t = ![t.val / 11, t.val % 11]
    ∧ t.val / 11 < 32 ∧ t.val % 11 < 11 := by decide +kernel

/-- A group of 256 hidden rows, at an index. -/
theorem rows_apply (a : Vec Ideal S256x2048 .f32) (g : Vec Ideal S1x2048 .f32) (sh sc : Vec Ideal S1x1x2048 .f32)
    (x : S256x2048.Idx) :
    k0_pay2 a g sh sc x = a (ix2 (x 0) (x 1)) * Ideal.rsqrt (Ideal.div (∑ k : Fin 2048, a (ix2 (x 0) k) * a (ix2 (x 0) k))
        (Ideal.ofBits .f32 0x45000000#32) + Ideal.ofBits .f32 0x358637BD#32) * g (ix2 ⟨0, by omega⟩ (x 1))
      * (1 + sc (ix3 ⟨0, by omega⟩ ⟨0, by omega⟩ (x 1))) + sh (ix3 ⟨0, by omega⟩ ⟨0, by omega⟩ (x 1)) := by
  idx_vars x
  pointwise [k0_pay2]

/-- A tile's group of 256 rows from the hidden rows, at an index. -/
theorem tile_apply (h : Vec Ideal S256x2048 .bf16) (w w' : Vec Ideal S1x2048x512 .bf16) (x : S256x512.Idx) :
    k0_pay20 h w w' x = silu (∑ k : Fin 2048, h (ix2 (x 0) k) * w (ix3 ⟨0, by omega⟩ k (x 1)))
      * ∑ k : Fin 2048, h (ix2 (x 0) k) * w' (ix3 ⟨0, by omega⟩ k (x 1)) := by
  unfold silu
  idx_vars x
  pointwise [k0_pay20, zero_sub]

section Groups

variable (a : Vec Ideal S256x2048 .f32) (g : Vec Ideal S1x2048 .f32) (sh sc : Vec Ideal S1x1x2048 .f32)
  (h : Vec Ideal S256x2048 .bf16) (w w' : Vec Ideal S1x2048x512 .bf16)

/-! The four groups of a tile do the same to their rows; the program cuts them up in different places. -/

theorem rows0 : k0_pay3 a g sh sc = k0_pay2 a g sh sc := by
  unfold k0_pay3; exact (shapeCast_id _ _).trans rfl
theorem rows1 : k0_pay8 a g sh sc = k0_pay2 a g sh sc := by
  unfold k0_pay8; exact (shapeCast_id _ _).trans rfl
theorem rows2 : k0_pay14 a g (k0_pay10 sh) (k0_pay11 sc) (k0_pay12 a) = k0_pay2 a g sh sc := by
  unfold k0_pay14; exact (shapeCast_id _ _).trans rfl
theorem rows3 : k0_pay18 a g (k0_pay16 sh) sc = k0_pay2 a g sh sc := by
  unfold k0_pay18; exact (shapeCast_id _ _).trans rfl
theorem fresh0 : k0_pay6 (k0_pay2 a g sh sc) (k0_pay4 a g sh sc w) (k0_pay5 a g sh sc w) (Scalar.ofBits .f32 0x3F800000#32) w'
    = k0_pay20 (k0_pay2 a g sh sc) w w' := rfl
theorem fresh1 : k0_pay9 (k0_pay7 a g sh sc) w w' = k0_pay20 (k0_pay2 a g sh sc) w w' := rfl
theorem fresh2 : k0_pay15 a g (k0_pay10 sh) (k0_pay11 sc) (k0_pay12 a) w w' = k0_pay20 (k0_pay2 a g sh sc) w w' := rfl
theorem fresh3 : k0_pay19 a g (k0_pay16 sh) sc w w' = k0_pay20 (k0_pay2 a g sh sc) w w' := rfl
theorem kept1 : k0_pay23 h (k0_pay21 h w) (k0_pay22 w') = k0_pay20 h w w' := rfl
theorem kept2 : k0_pay24 h w w' = k0_pay20 h w w' := rfl
theorem kept3 : k0_pay1 h (k0_pay25 h w) (k0_pay26 h w) (Scalar.ofBits .f32 0x3F800000#32) w' = k0_pay20 h w w' := rfl

end Groups

variable (m : (ℓ : Loc nD τ sig) → Buf (Elt Ideal) ℓ) (c : Dev nD)

/-- The hidden rows from the arguments as they are in memory. -/
abbrev hid : FVec Ideal S32768x2048 .f32 :=
  hidden (m ((c : Thread nD τ).loc main_arg0)) (m ((c : Thread nD τ).loc main_arg1)) (m ((c : Thread nD τ).loc main_arg2))

/-- The hidden rows of the `i`-th row of tiles. -/
def kept (i : ℕ) (hi : i < 32) : FVec Ideal S1024x2048 .bf16 := fun y =>
  hid m c (ix2 ⟨1024 * i + (y 0).val, by idx_bounds y; omega⟩ (y 1))

theorem points (t : Fin cfg0.N) : t.val / 11 < 32 := (tiles t).2.2.2.2.2.2.1

/-- The first point of a row of tiles stores the hidden rows. -/
theorem stores (t : Fin cfg0.N) (h0 : t.val % 11 = 0) :
    (outsAt0 m c t.val t.isLt).2 = kept m c (t.val / 11) (points t) := by
  funext y
  obtain ⟨e0, e1, e2, e3, e4, e5, hi, hj⟩ := tiles t
  rw [outsAt0_A m c t h0 (by omega)]
  frame_out
  unfold kept hid hidden
  canon_tiles x h
  all_goals
    simp only [rows0, rows1, rows2, rows3]
    refine (rows_apply _ _ _ _ x).trans ?_
    pointwise
    blk_point [iblk, V, e0, e1, e2]

/-- The other points leave them. -/
theorem leaves (t : Fin cfg0.N) (h0 : ¬ t.val % 11 = 0) :
    (outsAt0 m c t.val t.isLt).2 = (outsAt0 m c (t.val - 1) (Nat.lt_of_le_of_lt (Nat.sub_le _ _) t.isLt)).2 := by
  rw [outsAt0_B m c t h0 (by omega)]
  frame_out
  exact rfl

/-- So the carried buffer holds the rows of the point's row of tiles. -/
theorem held (t : Fin cfg0.N) : (outsAt0 m c t.val t.isLt).2 = kept m c (t.val / 11) (points t) := by
  refine (Pipeline.eq_of_write_hold (N := cfg0.N) (fun n hn => (outsAt0 m c n hn).2) 11
    (fun t : Fin cfg0.N => kept m c (t.val / 11) (points t)) (fun t ht => stores m c t ht)
    (fun t ht => leaves m c t ht) t).trans ?_
  congr 1
  dsimp only
  omega

/-- The tile of the point `t`. -/
def tile (t : Fin cfg0.N) : FVec Ideal S1024x512 .bf16 := fun y =>
  gated (hid m c) (m ((c : Thread nD τ).loc main_arg3))
    (ix2 ⟨1024 * (t.val / 11) + (y 0).val, by have := points t; idx_bounds y; omega⟩
      ⟨512 * (t.val % 11) + (y 1).val, by idx_bounds y; omega⟩)

theorem tile_fresh (t : Fin cfg0.N) (h0 : t.val % 11 = 0) : (outsAt0 m c t.val t.isLt).1 = tile m c t := by
  funext y
  obtain ⟨e0, e1, e2, e3, e4, e5, hi, hj⟩ := tiles t
  rw [outsAt0_A m c t h0 (by omega)]
  frame_out
  unfold tile gated hid hidden
  canon_tiles x h
  all_goals
    simp only [fresh0, fresh1, fresh2, fresh3]
    refine (tile_apply _ _ _ x).trans ?_
    simp only [rows_apply]
    pointwise
    blk_point [iblk, V, e0, e1, e2, e3, e4]

theorem tile_kept (t : Fin cfg0.N) (h0 : ¬ t.val % 11 = 0) : (outsAt0 m c t.val t.isLt).1 = tile m c t := by
  funext y
  obtain ⟨e0, e1, e2, e3, e4, e5, hi, hj⟩ := tiles t
  rw [outsAt0_B m c t h0 (by omega)]
  frame_out
  have hp := (leaves m c t h0).symm.trans (held m c t)
  simp only [read_unread_whole, hp]
  unfold tile gated
  canon_tiles x h
  all_goals
    simp only [kept1, kept2, kept3]
    refine (tile_apply _ _ _ x).trans ?_
    unfold kept
    pointwise
    blk_point [iblk, V, e0, e1, e2, e3, e4]

/-- What the kernel's result array holds after the run. -/
theorem kernel_result : (dats m 0 c).arrAt 5 cfg0.N =
    activation (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  obtain ⟨e0, e1, e2, e3, e4, e5, hi, hj⟩ := tiles t
  blk_simp
  rw [after0_5, show (outsAt0 m c t.val t.isLt).1 = tile m c t from
    if h0 : t.val % 11 = 0 then tile_fresh m c t h0 else tile_kept m c t h0]
  unfold tile activation
  blk_point [e5]

end Kernel

section Reference

open Cert.UpRefIdeal.Read

/-- The reference's result. -/
theorem reference_result (x : FVec Ideal S32768x2048 .f32) (mods : FVec Ideal S16x6x2048 .f32)
    (g : FVec Ideal S1x2048 .f32) (w : FVec Ideal S4x2048x11264 .bf16) :
    val_main_v36 (F := Ideal) x mods g w = activation x mods g w := by
  funext y
  unfold activation gated hidden silu
  unfold val_main_v36 val_main_v35 val_main_v34 val_main_v33 val_main_call0_v5 val_main_call0_v4 val_main_call0_v3
    val_main_call0_v2 val_main_call0_v1 val_main_call0_v0 val_main_call0_cst val_main_call0_cst_0
  unfold val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst
    val_main_cst_0 val_main_cst_1 val_main_cst_2
  pointwise

end Reference

/-- Both programs from agreeing arguments end with the same result. -/
theorem agree : Cert.algebraic_UpIdeal_UpRefIdeal := fun m ρ m' ρ' _ hag =>
  ⟨fun c => activation (m ((c : Thread nD τ).loc main_arg0)) (m ((c : Thread nD τ).loc main_arg1)) (m ((c : Thread nD τ).loc main_arg2)) (m ((c : Thread nD τ).loc main_arg3)),
    (θ_run Cert.UpIdeal.defs _ _).mono (fun _ h c => ⟨(h c).1.trans (kernel_result m c), (h c).2⟩)
      (Cert.UpIdeal.Value.run_blocks m ρ),
    (θ_run Cert.UpRefIdeal.defs _ _).mono (fun _ h c => ⟨(h c).1.trans (by
        rw [Cert.UpRefIdeal.Read.val_main_v36_eq, (hag c).1, (hag c).2.1, (hag c).2.2.1, (hag c).2.2.2]
        exact reference_result ..), (h c).2⟩)
      (Cert.UpRefIdeal.Value.run m' ρ')⟩

/-- The three programs run and leave their arguments alone. -/
theorem frame_kernel : Cert.quiescent_Up := fun m ρ _ => Cert.Up.Gen.frame m ρ
theorem frame_ideal : Cert.quiescent_UpIdeal := fun m ρ _ => Cert.UpIdeal.Gen.frame m ρ
theorem frame_reference : Cert.quiescent_UpRefIdeal := fun m ρ _ =>
  (θ_run Cert.UpRefIdeal.defs _ _).mono (fun r h => ⟨fun c => (h c).2,
      Idealize.ShloMosaic.sem_eq_zero_of_no_sems (by decide) r.2⟩)
    (Cert.UpRefIdeal.Value.run (F := Ideal) m ρ)

end Cert.FfnUp

end
-- ==== Proof.FfnDown.lean ====
/-
  The feed-forward down projection and its residual. At every place of the stream the kernel's tiles and
  the plain product give `x + gate · (lhs · w)`, the gate being that of the place's batch entry.
-/
module

public import proofs.«01_k».proof.Defs
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnDown

open Cert.DownIdeal

/-- The stream after the step, place by place: row `r` belongs to batch entry `r / 4096`. -/
def stream (lhs : FVec Ideal S32768x5632 .bf16) (w : FVec Ideal S4x5632x2048 .bf16)
    (x : FVec Ideal S32768x2048 .f32) (mods : FVec Ideal S16x6x2048 .f32) : FVec Ideal S32768x2048 .f32 := fun y =>
  x y + mods (ix3 ⟨(y 0).val / 4096, by idx_bounds y; omega⟩ ⟨5, by omega⟩ (y 1))
    * ∑ k : Fin 5632, lhs (ix2 (y 0) k) * w (ix3 ⟨0, by omega⟩ k (y 1))

section Kernel

open Cert.DownIdeal.Gen

/-- The tile that the grid point `(i, j)` writes and the blocks that it reads. -/
theorem tiles : ∀ t : Fin grid0.N,
    win0_0.index t = ![(grid0.coords t 0).val, 0] ∧ win0_1.index t = ![0, 0, (grid0.coords t 1).val]
    ∧ win0_2.index t = ![(grid0.coords t 0).val, (grid0.coords t 1).val]
    ∧ win0_3.index t = ![(grid0.coords t 0).val / 4, 0, (grid0.coords t 1).val]
    ∧ win0_4.index t = ![(grid0.coords t 0).val, (grid0.coords t 1).val]
    ∧ (grid0.coords t 0).val < 32 ∧ (grid0.coords t 1).val < 4 := by decide +kernel

variable (m : (ℓ : Loc nD τ sig) → Buf (Elt Ideal) ℓ) (c : Dev nD)

/-- What the kernel's result array holds after the run. -/
theorem kernel_result : (dats m 0 c).arrAt 4 cfg0.N =
    stream (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  obtain ⟨e0, e1, e2, e3, e4, hi, hj⟩ := tiles t
  blk_simp
  rw [after0_4]
  frame_out
  unfold stream
  pointwise [k0_pay1]
  blk_point [iblk, V, e0, e1, e2, e3, e4]

end Kernel

section Reference

open Cert.DownRefIdeal.Read

/-- The reference's result. -/
theorem reference_result (lhs : FVec Ideal S32768x5632 .bf16) (w : FVec Ideal S4x5632x2048 .bf16)
    (x : FVec Ideal S32768x2048 .f32) (mods : FVec Ideal S16x6x2048 .f32) :
    val_main_v13 (F := Ideal) lhs w x mods = stream lhs w x mods := by
  funext y
  unfold stream
  unfold val_main_v13 val_main_v12 val_main_v11 val_main_v10 val_main_v9 val_main_v8 val_main_v7 val_main_v6
    val_main_v5 val_main_v4 val_main_v3 val_main_v2 val_main_v1 val_main_v0
  pointwise

end Reference

/-- Both programs from agreeing arguments end with the same stream. -/
theorem agree : Cert.algebraic_DownIdeal_DownRefIdeal := fun m ρ m' ρ' _ hag =>
  ⟨fun c => stream (m ((c : Thread nD τ).loc main_arg0)) (m ((c : Thread nD τ).loc main_arg1))
      (m ((c : Thread nD τ).loc main_arg2)) (m ((c : Thread nD τ).loc main_arg3)),
    (θ_run Cert.DownIdeal.defs _ _).mono (fun _ h c => ⟨(h c).1.trans (kernel_result m c), (h c).2⟩)
      (Cert.DownIdeal.Value.run_blocks m ρ),
    (θ_run Cert.DownRefIdeal.defs _ _).mono (fun _ h c => ⟨(h c).1.trans (by
        rw [(hag c).1, (hag c).2.1, (hag c).2.2.1, (hag c).2.2.2]
        exact (Cert.DownRefIdeal.Read.val_main_v13_eq ..).trans (reference_result ..)), (h c).2⟩)
      (Cert.DownRefIdeal.Value.run m' ρ')⟩

/-- The three programs run and leave their arguments alone. -/
theorem frame_kernel : Cert.quiescent_Down := fun m ρ _ => Cert.Down.Gen.frame m ρ
theorem frame_ideal : Cert.quiescent_DownIdeal := fun m ρ _ => Cert.DownIdeal.Gen.frame m ρ
theorem frame_reference : Cert.quiescent_DownRefIdeal := fun m ρ _ =>
  (θ_run Cert.DownRefIdeal.defs _ _).mono (fun r h => ⟨fun c => (h c).2,
      Idealize.ShloMosaic.sem_eq_zero_of_no_sems (by decide) r.2⟩)
    (Cert.DownRefIdeal.Value.run (F := Ideal) m ρ)

end Cert.FfnDown

end
-- ==== Proof.OutProj.lean ====
/-
  The output projection and its residual. At every place of the stream the kernel's tiles and
  the plain product give `x + gate · (lhs · w)`, the gate being that of the place's batch entry.
-/
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.OutProj

open Cert.OutIdeal

/-- The stream after the step, place by place: row `r` belongs to batch entry `r / 4096`. -/
def stream (lhs : FVec Ideal S32768x2048 .bf16) (w : FVec Ideal S4x2048x2048 .bf16)
    (x : FVec Ideal S32768x2048 .f32) (mods : FVec Ideal S16x6x2048 .f32) : FVec Ideal S32768x2048 .f32 := fun y =>
  x y + mods (ix3 ⟨(y 0).val / 4096, by idx_bounds y; omega⟩ ⟨2, by omega⟩ (y 1))
    * ∑ k : Fin 2048, lhs (ix2 (y 0) k) * w (ix3 ⟨0, by omega⟩ k (y 1))

section Kernel

open Cert.OutIdeal.Gen

/-- The tile that the grid point `(i, j)` writes and the blocks that it reads. -/
theorem tiles : ∀ t : Fin grid0.N,
    win0_0.index t = ![(grid0.coords t 0).val, 0] ∧ win0_1.index t = ![0, 0, (grid0.coords t 1).val]
    ∧ win0_2.index t = ![(grid0.coords t 0).val, (grid0.coords t 1).val]
    ∧ win0_3.index t = ![(grid0.coords t 0).val / 4, 0, (grid0.coords t 1).val]
    ∧ win0_4.index t = ![(grid0.coords t 0).val, (grid0.coords t 1).val]
    ∧ (grid0.coords t 0).val < 32 ∧ (grid0.coords t 1).val < 2 := by decide +kernel

variable (m : (ℓ : Loc nD τ sig) → Buf (Elt Ideal) ℓ) (c : Dev nD)

/-- What the kernel's result array holds after the run. -/
theorem kernel_result : (dats m 0 c).arrAt 4 cfg0.N =
    stream (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  obtain ⟨e0, e1, e2, e3, e4, hi, hj⟩ := tiles t
  blk_simp
  rw [after0_4]
  frame_out
  unfold stream
  pointwise [k0_pay1]
  blk_point [iblk, V, e0, e1, e2, e3, e4]

end Kernel

section Reference

open Cert.OutRefIdeal.Read

/-- The reference's result. -/
theorem reference_result (lhs : FVec Ideal S32768x2048 .bf16) (w : FVec Ideal S4x2048x2048 .bf16)
    (x : FVec Ideal S32768x2048 .f32) (mods : FVec Ideal S16x6x2048 .f32) :
    val_main_v13 (F := Ideal) lhs w x mods = stream lhs w x mods := by
  funext y
  unfold stream
  unfold val_main_v13 val_main_v12 val_main_v11 val_main_v10 val_main_v9 val_main_v8 val_main_v7 val_main_v6
    val_main_v5 val_main_v4 val_main_v3 val_main_v2 val_main_v1 val_main_v0
  pointwise

end Reference

/-- Both programs from agreeing arguments end with the same stream. -/
theorem agree : Cert.algebraic_OutIdeal_OutRefIdeal := fun m ρ m' ρ' _ hag =>
  ⟨fun c => stream (m ((c : Thread nD τ).loc main_arg0)) (m ((c : Thread nD τ).loc main_arg1))
      (m ((c : Thread nD τ).loc main_arg2)) (m ((c : Thread nD τ).loc main_arg3)),
    (θ_run Cert.OutIdeal.defs _ _).mono (fun _ h c => ⟨(h c).1.trans (kernel_result m c), (h c).2⟩)
      (Cert.OutIdeal.Value.run_blocks m ρ),
    (θ_run Cert.OutRefIdeal.defs _ _).mono (fun _ h c => ⟨(h c).1.trans (by
        rw [(hag c).1, (hag c).2.1, (hag c).2.2.1, (hag c).2.2.2]
        exact (Cert.OutRefIdeal.Read.val_main_v13_eq ..).trans (reference_result ..)), (h c).2⟩)
      (Cert.OutRefIdeal.Value.run m' ρ')⟩

/-- The three programs run and leave their arguments alone. -/
theorem frame_kernel : Cert.quiescent_Out := fun m ρ _ => Cert.Out.Gen.frame m ρ
theorem frame_ideal : Cert.quiescent_OutIdeal := fun m ρ _ => Cert.OutIdeal.Gen.frame m ρ
theorem frame_reference : Cert.quiescent_OutRefIdeal := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)

end Cert.OutProj

end
-- ==== Proof.Norm.lean ====
/-
  The root-mean-square norm at the end of the model: every row of the stream is divided by the root of its
  mean square (plus a small number) and multiplied by the gain of its column.
-/
module

public import proofs.«01_k».proof.Defs
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.LastNorm

open Cert.NormIdeal

/-- The normalised stream, place by place. -/
def normed (x : FVec Ideal S32768x2048 .f32) (g : FVec Ideal S1x2048 .f32) : FVec Ideal S32768x2048 .f32 := fun y =>
  x y * Ideal.rsqrt (Ideal.div (∑ k : Fin 2048, x (ix2 (y 0) k) * x (ix2 (y 0) k)) (Ideal.ofBits .f32 0x45000000#32)
      + Ideal.ofBits .f32 0x358637BD#32) * g (ix2 ⟨0, by omega⟩ (y 1))

section Kernel

open Cert.NormIdeal.Gen

/-- The rows that the grid point `i` writes and the blocks that it reads. -/
theorem tiles : ∀ t : Fin grid0.N,
    win0_0.index t = ![(grid0.coords t 0).val, 0] ∧ win0_1.index t = ![0, 0]
    ∧ win0_2.index t = ![(grid0.coords t 0).val, 0] ∧ (grid0.coords t 0).val < 32 := by decide +kernel

variable (m : (ℓ : Loc nD τ sig) → Buf (Elt Ideal) ℓ) (c : Dev nD)

/-- What the kernel's result array holds after the run. -/
theorem kernel_result : (dats m 0 c).arrAt 2 cfg0.N =
    normed (m ((c : Thread nD τ).loc main_arg0)) (m ((c : Thread nD τ).loc main_arg1)) := by
  refine (dats m 0 c).arrAt_eq_of_covers 2 _ (by decide +kernel) fun t _ y => ?_
  obtain ⟨e0, e1, e2, hi⟩ := tiles t
  blk_simp
  rw [after0_2]
  frame_out
  unfold normed
  pointwise [k0_pay1]
  blk_point [iblk, V, e0, e1, e2]

end Kernel

section Reference

open Cert.NormRefIdeal.Read

/-- The reference's result. -/
theorem reference_result (x : FVec Ideal S32768x2048 .f32) (g : FVec Ideal S1x2048 .f32) :
    val_main_v13 (F := Ideal) x g = normed x g := by
  funext y
  unfold normed
  unfold val_main_v13 val_main_v12 val_main_v11 val_main_v10 val_main_v9 val_main_v8 val_main_v7 val_main_v6 val_main_v5 val_main_v4 val_main_v3 val_main_v2 val_main_v1 val_main_v0 val_main_cst
    val_main_cst_0 val_main_cst_1
  pointwise

end Reference

/-- Both programs from agreeing arguments end with the same result. -/
theorem agree : Cert.algebraic_NormIdeal_NormRefIdeal := fun m ρ m' ρ' _ hag =>
  ⟨fun c => normed (m ((c : Thread nD τ).loc main_arg0)) (m ((c : Thread nD τ).loc main_arg1)),
    (θ_run Cert.NormIdeal.defs _ _).mono (fun _ h c => ⟨(h c).1.trans (kernel_result m c), (h c).2⟩)
      (Cert.NormIdeal.Value.run_blocks m ρ),
    (θ_run Cert.NormRefIdeal.defs _ _).mono (fun _ h c => ⟨(h c).1.trans (by
        rw [(hag c).1, (hag c).2]
        exact (Cert.NormRefIdeal.Read.val_main_v13_eq ..).trans (reference_result ..)), (h c).2⟩)
      (Cert.NormRefIdeal.Value.run m' ρ')⟩

/-- The three programs run and leave their arguments alone. -/
theorem frame_kernel : Cert.quiescent_Norm := fun m ρ _ => Cert.Norm.Gen.frame m ρ
theorem frame_ideal : Cert.quiescent_NormIdeal := fun m ρ _ => Cert.NormIdeal.Gen.frame m ρ
theorem frame_reference : Cert.quiescent_NormRefIdeal := fun m ρ _ =>
  (θ_run Cert.NormRefIdeal.defs _ _).mono (fun r h => ⟨fun c => (h c).2,
      Idealize.ShloMosaic.sem_eq_zero_of_no_sems (by decide) r.2⟩)
    (Cert.NormRefIdeal.Value.run (F := Ideal) m ρ)

end Cert.LastNorm

end
-- ==== Proof.Rope.lean ====
/-
  The rotation of the heads of a tile's group of 256 rows, read at an index: every column is multiplied by the
  cosine and its partner, half a head away in the same head, by the sine. The tiles of the first point hold
  twelve heads, those of the second eight and then columns that are not rotated.
-/
module

public import proofs.«01_k».proof.Defs
public import proofs.«01_k».proof.Proof.Gen.InProjIdeal.Skeleton
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe

namespace Cert.Projection

open Cert.InProjIdeal Cert.InProjIdeal.Gen

/-- Half a head's turn of the `k`-th of 12 heads. -/
def turn12 (z : FVec Ideal S256x1536 .f32) (k : Fin 12) : FVec Ideal S256x128 .f32 :=
  dynamicRotate 1 64#32 none (extractStridedSlice S256x128 ![0, 128 * k.val] z (by revert k; decide)) rotates_S256x128_d1

theorem turn12_apply (z : FVec Ideal S256x1536 .f32) (k : Fin 12) (i : S256x128.Idx) :
    turn12 z k i = z (ix2 (i 0) ⟨128 * k.val + ((i 1).val + 64) % 128, by omega⟩) := by
  unfold turn12
  idx_vars i
  pointwise
  congr 2

/-- The turned heads side by side: a column's partner lies half a head away in its own head. -/
theorem partner12_apply (z : FVec Ideal S256x1536 .f32) (h) (x : S256x1536.Idx) :
    concatenate S256x1536 1 (List.ofFn fun k : Fin 12 => (⟨S256x128, turn12 z k⟩ : (s : Shape) × (s.Idx → Elt Ideal .f32))) h x
      = z (ix2 (x 0) ⟨(x 1).val / 128 * 128 + ((x 1).val + 64) % 128, by idx_bounds x; omega⟩) := by
  refine (Idealize.ShloMosaic.concatenate_ofFn_apply (t := S256x1536) 1 (turn12 z) h rfl 128 rfl x ⟨(x 1).val / 128, by idx_bounds x; omega⟩ rfl
    (ix2 (x 0) ⟨(x 1).val % 128, by omega⟩) rfl ?_).trans ?_
  · intro b hb; fin_cases b
    · rfl
    · exact absurd rfl hb
  · rw [turn12_apply]
    congr 2
    apply Fin.ext
    show 128 * ((x 1).val / 128) + ((x 1).val % 128 + 64) % 128 = _
    dsimp only
    omega

/-- A head's rows repeated for every head. -/
theorem repeat12_apply (v : FVec Ideal S256x128 .f32) (h) (x : S256x1536.Idx) :
    concatenate S256x1536 1 (List.replicate 12 (⟨S256x128, v⟩ : (s : Shape) × (s.Idx → Elt Ideal .f32))) h x
      = v (ix2 (x 0) ⟨(x 1).val % 128, by omega⟩) := by
  refine concatenate_replicate_apply (t := S256x1536) 1 12 v h rfl x _ rfl ?_
  intro b hb; fin_cases b
  · rfl
  · exact absurd rfl hb

/-- A group's columns turned. -/
def rope12 (z : FVec Ideal S256x1536 .f32) (cs sn : FVec Ideal S256x128 .f32) : FVec Ideal S256x1536 .f32 := fun x =>
  z x * cs (ix2 (x 0) ⟨(x 1).val % 128, by omega⟩)
    + z (ix2 (x 0) ⟨(x 1).val / 128 * 128 + ((x 1).val + 64) % 128, by idx_bounds x; omega⟩) * sn (ix2 (x 0) ⟨(x 1).val % 128, by omega⟩)

/-- Half a head's turn of the `k`-th of 8 heads. -/
def turn8 (z : FVec Ideal S256x1024 .f32) (k : Fin 8) : FVec Ideal S256x128 .f32 :=
  dynamicRotate 1 64#32 none (extractStridedSlice S256x128 ![0, 128 * k.val] z (by revert k; decide)) rotates_S256x128_d1

theorem turn8_apply (z : FVec Ideal S256x1024 .f32) (k : Fin 8) (i : S256x128.Idx) :
    turn8 z k i = z (ix2 (i 0) ⟨128 * k.val + ((i 1).val + 64) % 128, by omega⟩) := by
  unfold turn8
  idx_vars i
  pointwise
  congr 2

/-- The turned heads side by side. -/
theorem partner8_apply (z : FVec Ideal S256x1024 .f32) (h) (x : S256x1024.Idx) :
    concatenate S256x1024 1 (List.ofFn fun k : Fin 8 => (⟨S256x128, turn8 z k⟩ : (s : Shape) × (s.Idx → Elt Ideal .f32))) h x
      = z (ix2 (x 0) ⟨(x 1).val / 128 * 128 + ((x 1).val + 64) % 128, by idx_bounds x; omega⟩) := by
  refine (Idealize.ShloMosaic.concatenate_ofFn_apply (t := S256x1024) 1 (turn8 z) h rfl 128 rfl x ⟨(x 1).val / 128, by idx_bounds x; omega⟩ rfl
    (ix2 (x 0) ⟨(x 1).val % 128, by omega⟩) rfl ?_).trans ?_
  · intro b hb; fin_cases b
    · rfl
    · exact absurd rfl hb
  · rw [turn8_apply]
    congr 2
    apply Fin.ext
    show 128 * ((x 1).val / 128) + ((x 1).val % 128 + 64) % 128 = _
    dsimp only
    omega

/-- A head's rows repeated for every head. -/
theorem repeat8_apply (v : FVec Ideal S256x128 .f32) (h) (x : S256x1024.Idx) :
    concatenate S256x1024 1 (List.replicate 8 (⟨S256x128, v⟩ : (s : Shape) × (s.Idx → Elt Ideal .f32))) h x
      = v (ix2 (x 0) ⟨(x 1).val % 128, by omega⟩) := by
  refine concatenate_replicate_apply (t := S256x1024) 1 8 v h rfl x _ rfl ?_
  intro b hb; fin_cases b
  · rfl
  · exact absurd rfl hb

/-- A group's columns turned. -/
def rope8 (z : FVec Ideal S256x1024 .f32) (cs sn : FVec Ideal S256x128 .f32) : FVec Ideal S256x1024 .f32 := fun x =>
  z x * cs (ix2 (x 0) ⟨(x 1).val % 128, by omega⟩)
    + z (ix2 (x 0) ⟨(x 1).val / 128 * 128 + ((x 1).val + 64) % 128, by idx_bounds x; omega⟩) * sn (ix2 (x 0) ⟨(x 1).val % 128, by omega⟩)

variable (h : FVec Ideal S256x2048 .bf16) (w : Vec Ideal S1x2048x1536 .bf16) (cs sn : FVec Ideal S256x128 .f32)
  (z : FVec Ideal S256x1536 .f32) (zl : FVec Ideal S256x1024 .f32)

theorem all_heads : k0_pay12 z cs sn = rope12 z cs sn := by
  funext x
  unfold rope12
  rw [← repeat12_apply cs concatenates_S256x128_S256x128_S256x128_S256x128_S256x128_S256x128_S256x128_S256x128_S256x128_S256x128_S256x128_S256x128_S256x1536_d1,
    ← repeat12_apply sn concatenates_S256x128_S256x128_S256x128_S256x128_S256x128_S256x128_S256x128_S256x128_S256x128_S256x128_S256x128_S256x128_S256x1536_d1,
    ← partner12_apply z concatenates_S256x128_S256x128_S256x128_S256x128_S256x128_S256x128_S256x128_S256x128_S256x128_S256x128_S256x128_S256x128_S256x1536_d1]
  exact rfl

theorem some_heads : addf (mulf zl (concatenate S256x1024 1 (List.replicate 8 ⟨S256x128, cs⟩) concatenates_S256x128_S256x128_S256x128_S256x128_S256x128_S256x128_S256x128_S256x128_S256x1024_d1))
    (mulf (concatenate S256x1024 1 (List.ofFn fun k : Fin 8 => ⟨S256x128, turn8 zl k⟩) concatenates_S256x128_S256x128_S256x128_S256x128_S256x128_S256x128_S256x128_S256x128_S256x1024_d1)
      (concatenate S256x1024 1 (List.replicate 8 ⟨S256x128, sn⟩) concatenates_S256x128_S256x128_S256x128_S256x128_S256x128_S256x128_S256x128_S256x128_S256x1024_d1)) = rope8 zl cs sn := by
  funext x
  unfold rope8
  rw [← repeat8_apply cs concatenates_S256x128_S256x128_S256x128_S256x128_S256x128_S256x128_S256x128_S256x128_S256x1024_d1,
    ← repeat8_apply sn concatenates_S256x128_S256x128_S256x128_S256x128_S256x128_S256x128_S256x128_S256x128_S256x1024_d1,
    ← partner8_apply zl concatenates_S256x128_S256x128_S256x128_S256x128_S256x128_S256x128_S256x128_S256x128_S256x1024_d1]
  exact rfl

/-- The second point's columns: eight heads rotated, the rest as they are. -/
def mixed (z : FVec Ideal S256x1536 .f32) (cs sn : FVec Ideal S256x128 .f32) : FVec Ideal S256x1536 .f32 := fun x =>
  if (x 1).val < 1024 then rope12 z cs sn x else z x

theorem mixed_heads : k0_pay66 z (extractStridedSlice S256x1024 ![0, 0] z slices_S256x1536_o0_0_S256x1024) cs sn = mixed z cs sn := by
  have e : k0_pay66 z (extractStridedSlice S256x1024 ![0, 0] z slices_S256x1536_o0_0_S256x1024) cs sn
      = concatenate S256x1536 1 [⟨S256x1024, rope8 (extractStridedSlice S256x1024 ![0, 0] z slices_S256x1536_o0_0_S256x1024) cs sn⟩,
        ⟨S256x512, extractStridedSlice S256x512 ![0, 1024] z slices_S256x1536_o0_1024_S256x512⟩]
        concatenates_S256x1024_S256x512_S256x1536_d1 := by
    rw [← some_heads]; exact rfl
  rw [e]
  funext x
  unfold mixed rope8 rope12
  idx_vars x
  pointwise
  split
  · rfl
  · congr 2
    apply Fin.ext
    dsimp only
    omega

/-! The four groups of a tile do the same to their rows; the program cuts them up in different places. -/

section Groups

variable (a : Vec Ideal S256x2048 .f32) (g : Vec Ideal S1x2048 .f32) (sh sc : Vec Ideal S1x1x2048 .f32)
  (v : Vec Ideal S1x2048x128 .bf16)

theorem keep0 : k0_pay5 a g sh sc = k0_pay4 a g sh sc := by
  unfold k0_pay5; exact (shapeCast_id _ _).trans rfl
theorem keep1 : k0_pay9 a g sh sc = k0_pay4 a g sh sc := by
  unfold k0_pay9; exact (shapeCast_id _ _).trans rfl
theorem keep2 : k0_pay14 a g sh sc = k0_pay4 a g sh sc := by
  unfold k0_pay14; exact (shapeCast_id _ _).trans rfl
theorem keep3 : k0_pay21 a g (k0_pay19 sh) sc = k0_pay4 a g sh sc := by
  unfold k0_pay21; exact (shapeCast_id _ _).trans rfl

theorem beside1 : k0_pay10 a g sh sc v = k0_pay6 a g sh sc v := rfl
theorem beside2 : k0_pay15 a g sh sc v = k0_pay6 a g sh sc v := rfl
theorem beside3 : k0_pay22 a g (k0_pay19 sh) sc v = k0_pay6 a g sh sc v := rfl

theorem first0 : k0_pay7 (k0_pay4 a g sh sc) w cs sn = rope12 (k0_pay28 (k0_pay4 a g sh sc) w) cs sn :=
  Eq.trans (b := k0_pay12 (k0_pay28 (k0_pay4 a g sh sc) w) cs sn) rfl (all_heads ..)
theorem first1 : k0_pay12 (k0_pay11 a g sh sc w) cs sn = rope12 (k0_pay28 (k0_pay4 a g sh sc) w) cs sn :=
  Eq.trans (b := k0_pay12 (k0_pay28 (k0_pay4 a g sh sc) w) cs sn) rfl (all_heads ..)
theorem first2 : k0_pay18 (k0_pay16 a g sh sc w) (k0_pay17 cs) sn = rope12 (k0_pay28 (k0_pay4 a g sh sc) w) cs sn :=
  Eq.trans (b := k0_pay12 (k0_pay28 (k0_pay4 a g sh sc) w) cs sn) rfl (all_heads ..)
theorem first3 : k0_pay1 (k0_pay23 a g (k0_pay19 sh) sc w) (k0_pay24 cs) (k0_pay25 sn) (k0_pay26 a g (k0_pay19 sh) sc w)
    = rope12 (k0_pay28 (k0_pay4 a g sh sc) w) cs sn :=
  Eq.trans (b := k0_pay12 (k0_pay28 (k0_pay4 a g sh sc) w) cs sn) rfl (all_heads ..)

theorem second0 : k0_pay62 h w cs sn = mixed (k0_pay28 h w) cs sn := by
  rw [← mixed_heads]; unfold k0_pay62 k0_pay66 k0_pay28; rfl
theorem second1 : k0_pay63 h w cs sn = mixed (k0_pay28 h w) cs sn := by
  rw [← mixed_heads]; unfold k0_pay63 k0_pay66 k0_pay28; rfl
theorem second2 : k0_pay66 (k0_pay64 h w) (k0_pay65 h w) cs sn = mixed (k0_pay28 h w) cs sn := by
  rw [← mixed_heads]; unfold k0_pay64 k0_pay65 k0_pay28; rfl
theorem second3 : k0_pay3 (k0_pay67 h w) (k0_pay68 h w) (k0_pay69 cs) sn = mixed (k0_pay28 h w) cs sn := by
  rw [← mixed_heads]; unfold k0_pay3 k0_pay67 k0_pay68 k0_pay69 k0_pay66 k0_pay28; rfl

theorem later0 : k0_pay70 h w = k0_pay28 h w := rfl
theorem later1 : k0_pay71 h w = k0_pay28 h w := rfl
theorem later2 : k0_pay72 h w = k0_pay28 h w := rfl
theorem later3 : k0_pay73 h w = k0_pay28 h w := rfl

/-- A group of 256 hidden rows, at an index. -/
theorem rows_apply (x : S256x2048.Idx) :
    k0_pay4 a g sh sc x = a (ix2 (x 0) (x 1)) * Ideal.rsqrt (Ideal.div (∑ k : Fin 2048, a (ix2 (x 0) k) * a (ix2 (x 0) k))
        (Ideal.ofBits .f32 0x45000000#32) + Ideal.ofBits .f32 0x358637BD#32) * g (ix2 ⟨0, by omega⟩ (x 1))
      * (1 + sc (ix3 ⟨0, by omega⟩ ⟨0, by omega⟩ (x 1))) + sh (ix3 ⟨0, by omega⟩ ⟨0, by omega⟩ (x 1)) := by
  idx_vars x
  pointwise [k0_pay4]

/-- Their products with the two weights. -/
theorem product_apply (x : S256x1536.Idx) :
    k0_pay28 h w x = ∑ k : Fin 2048, h (ix2 (x 0) k) * w (ix3 ⟨0, by omega⟩ k (x 1)) := by
  idx_vars x
  pointwise [k0_pay28]

theorem beside_apply (x : S256x128.Idx) :
    k0_pay6 a g sh sc v x = ∑ k : Fin 2048, k0_pay4 a g sh sc (ix2 (x 0) k) * v (ix3 ⟨0, by omega⟩ k (x 1)) := by
  generalize e : k0_pay4 a g sh sc = h
  unfold k0_pay6
  rw [e]
  idx_vars x
  pointwise

end Groups

end Cert.Projection

end
-- ==== Proof.ProjTarget.lean ====
/-
  The input projection in words of its arguments: the hidden rows, their products with the two weights, and the
  rotation of the queries' and keys' heads.
-/
module

public import proofs.«01_k».proof.Proof.Rope
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Projection

open Cert.InProjIdeal

/-- The normalised and modulated stream, place by place: row `r` belongs to batch entry `r / 4096`. -/
def hidden (x : FVec Ideal S32768x2048 .f32) (mods : FVec Ideal S16x6x2048 .f32) (g : FVec Ideal S1x2048 .f32) :
    FVec Ideal S32768x2048 .f32 := fun y =>
  x y * Ideal.rsqrt (Ideal.div (∑ k : Fin 2048, x (ix2 (y 0) k) * x (ix2 (y 0) k)) (Ideal.ofBits .f32 0x45000000#32)
      + Ideal.ofBits .f32 0x358637BD#32) * g (ix2 ⟨0, by omega⟩ (y 1))
    * (1 + mods (ix3 ⟨(y 0).val / 4096, by idx_bounds y; omega⟩ ⟨1, by omega⟩ (y 1)))
    + mods (ix3 ⟨(y 0).val / 4096, by idx_bounds y; omega⟩ ⟨0, by omega⟩ (y 1))

/-- The hidden rows' products with the first layer's weight. -/
def product (h : FVec Ideal S32768x2048 .f32) (w : FVec Ideal S4x2048x15360 .bf16) : FVec Ideal S32768x15360 .f32 := fun y =>
  ∑ k : Fin 2048, h (ix2 (y 0) k) * w (ix3 ⟨0, by omega⟩ k (y 1))

/-- The rotated product at row `r` and column `k`: the twenty heads of the queries and keys are turned. -/
def rotatedAt (z : FVec Ideal S32768x15360 .f32) (cs sn : FVec Ideal S32768x128 .f32) (r : Fin 32768) (k : Fin 15360) : EReal :=
  if k.val < 2560 then
    z (ix2 r k) * cs (ix2 r ⟨k.val % 128, by omega⟩)
      + z (ix2 r ⟨k.val / 128 * 128 + (k.val + 64) % 128, by omega⟩) * sn (ix2 r ⟨k.val % 128, by omega⟩)
  else z (ix2 r k)
def rotated (z : FVec Ideal S32768x15360 .f32) (cs sn : FVec Ideal S32768x128 .f32) : FVec Ideal S32768x15360 .f32 := fun y =>
  rotatedAt z cs sn (y 0) (y 1)

/-- The hidden rows' products with the second weight. -/
def beside (h : FVec Ideal S32768x2048 .f32) (w : FVec Ideal S4x2048x128 .bf16) : FVec Ideal S32768x128 .f32 := fun y =>
  ∑ k : Fin 2048, h (ix2 (y 0) k) * w (ix3 ⟨0, by omega⟩ k (y 1))

end Cert.Projection

end
-- ==== Proof.ProjRun.lean ====
/-
  The input projection's body, run. Of the ten grid points of a row of tiles the first computes the hidden rows,
  keeps them in the carried buffer and stores both results' tiles; the second and the other eight read the kept
  rows and store a tile of the first result only. Each of the three is run once, on any buffers.
-/
module

public import proofs.«01_k».proof.Defs
public import proofs.«01_k».proof.Proof.Gen.InProjIdeal.Launch
public import proofs.«01_k».proof.Proof.Gen.InProjIdeal.Skeleton
public import proofs.«01_k».proof.Proof.Gen.InProjIdeal.Points
public import proofs.«01_k».proof.Proof.Gen.InProjIdeal.Frame
public import Idealize.ShloMosaic.Lib.Pipeline.FrameBody
public import Idealize.ShloMosaic.Lib.Ring
public import Idealize.ShloMosaic.Lib.Tactic

@[expose] public section

set_option maxRecDepth 16384

noncomputable section

namespace Cert.Projection

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (b0 : Memref sig .tc .vmem S1024x2048 .f32) (w0 : b0.IsWhole)
  (b1 : Memref sig .tc .vmem S1x6x2048 .f32) (w1 : b1.IsWhole)
  (b2 : Memref sig .tc .vmem S1x2048 .f32) (w2 : b2.IsWhole)
  (b3 : Memref sig .tc .vmem S1x2048x1536 .bf16) (w3 : b3.IsWhole)
  (b4 : Memref sig .tc .vmem S1x2048x128 .bf16) (w4 : b4.IsWhole)
  (b5 : Memref sig .tc .vmem S1024x128 .f32) (w5 : b5.IsWhole)
  (b6 : Memref sig .tc .vmem S1024x128 .f32) (w6 : b6.IsWhole)
  (b7 : Memref sig .tc .vmem S1024x1536 .bf16) (w7 : b7.IsWhole)
  (b8 : Memref sig .tc .vmem S1024x128 .f32) (w8 : b8.IsWhole)
  (b9 : Memref sig .tc .vmem S1024x2048 .bf16) (w9 : b9.IsWhole)
  (x0 : Vec F S1024x2048 .f32) (x1 : Vec F S1x6x2048 .f32) (x2 : Vec F S1x2048 .f32) (x3 : Vec F S1x2048x1536 .bf16) (x4 : Vec F S1x2048x128 .bf16) (x5 : Vec F S1024x128 .f32) (x6 : Vec F S1024x128 .f32)

set_option maxHeartbeats 1000000 in
/-- The first point of a row: what it stores in the two results' buffers and in the carried one, whatever they held. -/
def runFirst (c1 : k0_cond1 i = 1#1) (c2 : ¬k0_cond2 i = 1#1) (c3 : ¬k0_cond3 i = 1#1) (c4 : ¬k0_cond4 i = 1#1) :
    Σ' (Z : List (View.Piece (Elt F) S1024x1536 .bf16)), Σ' (B : List (View.Piece (Elt F) S1024x128 .f32)),
      { H : List (View.Piece (Elt F) S1024x2048 .bf16) // ∀ (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6
            ∗ (∃ d, owns (c : Thread nD τ) b7 fullShare d) ∗ (∃ d, owns (c : Thread nD τ) b8 fullShare d) ∗ (∃ d, owns (c : Thread nD τ) b9 fullShare d)
            ∗ (iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6
                ∗ (∃ f, b7.view.loc (c : Thread nD τ) ↦[b7.view.set]{fullShare} b7.view.writes (Elt F) f Z)
                ∗ (∃ f, b8.view.loc (c : Thread nD τ) ↦[b8.view.set]{fullShare} b8.view.writes (Elt F) f B)
                ∗ (∃ f, b9.view.loc (c : Thread nD τ) ↦[b9.view.set]{fullShare} b9.view.writes (Elt F) f H)) -∗ K ⟨⟩))
          ⊢ wp frame (wpE (defs₀ (F := F)) Variants.none c none) E (cc0_inproj i b0 w0 b1 w1 b2 w2 b3 w3 b4 w4 b5 w5 b6 w6 b7 w7 b8 w8 b9 w9) K } := by
  refine ⟨?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, Hk⟩
    obtain rfl := w0.eq_unread e0; obtain rfl := w1.eq_unread e1; obtain rfl := w2.eq_unread e2; obtain rfl := w3.eq_unread e3; obtain rfl := w4.eq_unread e4; obtain rfl := w5.eq_unread e5; obtain rfl := w6.eq_unread e6
    sl_exec (disch := first | sl_exact c1 | sl_exact c2 | sl_exact c3 | sl_exact c4)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]; · iexists _; iexact H7
    isplitl [H8]; · iexists _; iexact H8
    iexists _; iexact H9

set_option maxHeartbeats 1000000 in
/-- The second point: it finds the kept rows, leaves them and the second result's buffer as they are, and stores a tile of the first. -/
def runSecond (c1 : ¬k0_cond1 i = 1#1) (c2 : ¬k0_cond2 i = 1#1) (c3 : k0_cond3 i = 1#1) (c4 : ¬k0_cond4 i = 1#1) (kept : Vec F S1024x2048 .bf16) :
    { Z : List (View.Piece (Elt F) S1024x1536 .bf16) // ∀ (y : Vec F S1024x128 .f32) (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6
            ∗ (∃ d, owns (c : Thread nD τ) b7 fullShare d) ∗ owns (c : Thread nD τ) b8 fullShare y ∗ owns (c : Thread nD τ) b9 fullShare kept
            ∗ (iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6
                ∗ (∃ f, b7.view.loc (c : Thread nD τ) ↦[b7.view.set]{fullShare} b7.view.writes (Elt F) f Z)
                ∗ owns (c : Thread nD τ) b8 fullShare y ∗ owns (c : Thread nD τ) b9 fullShare kept) -∗ K ⟨⟩))
          ⊢ wp frame (wpE (defs₀ (F := F)) Variants.none c none) E (cc0_inproj i b0 w0 b1 w1 b2 w2 b3 w3 b4 w4 b5 w5 b6 w6 b7 w7 b8 w8 b9 w9) K } := by
  refine ⟨?_, fun y E K => ?run⟩
  case run =>
    simp only [cc0_inproj_eq_skeleton]; unfold cc0_inproj_skel
    simp only [k0_part12_eq_skeleton, k0_part13_eq_skeleton, k0_part14_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%f9, %e9, H9⟩, Hk⟩
    obtain rfl := w0.eq_unread e0; obtain rfl := w1.eq_unread e1; obtain rfl := w2.eq_unread e2; obtain rfl := w3.eq_unread e3; obtain rfl := w4.eq_unread e4; obtain rfl := w5.eq_unread e5; obtain rfl := w6.eq_unread e6; obtain rfl := w8.eq_unread e8; obtain rfl := w9.eq_unread e9
    sl_exec (disch := first | sl_exact c1 | sl_exact c2 | sl_exact c3 | sl_exact c4)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]; · iexists _; iexact H7
    isplitl [H8]
    · iexists _; isplitr; · ipureintro; exact w8.read_unread _
      iexact H8
    iexists _; isplitr; · ipureintro; exact w9.read_unread _
    iexact H9

set_option maxHeartbeats 1000000 in
/-- The other points do the same without the rotation. -/
def runLater (c1 : ¬k0_cond1 i = 1#1) (c2 : ¬k0_cond2 i = 1#1) (c3 : ¬k0_cond3 i = 1#1) (c4 : k0_cond4 i = 1#1) (kept : Vec F S1024x2048 .bf16) :
    { Z : List (View.Piece (Elt F) S1024x1536 .bf16) // ∀ (y : Vec F S1024x128 .f32) (E : Set ℕ) (K : PUnit → sProp 𝕄),
        iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6
            ∗ (∃ d, owns (c : Thread nD τ) b7 fullShare d) ∗ owns (c : Thread nD τ) b8 fullShare y ∗ owns (c : Thread nD τ) b9 fullShare kept
            ∗ (iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6
                ∗ (∃ f, b7.view.loc (c : Thread nD τ) ↦[b7.view.set]{fullShare} b7.view.writes (Elt F) f Z)
                ∗ owns (c : Thread nD τ) b8 fullShare y ∗ owns (c : Thread nD τ) b9 fullShare kept) -∗ K ⟨⟩))
          ⊢ wp frame (wpE (defs₀ (F := F)) Variants.none c none) E (cc0_inproj i b0 w0 b1 w1 b2 w2 b3 w3 b4 w4 b5 w5 b6 w6 b7 w7 b8 w8 b9 w9) K } := by
  refine ⟨?_, fun y E K => ?run⟩
  case run =>
    simp only [cc0_inproj_eq_skeleton]; unfold cc0_inproj_skel
    simp only [k0_part15_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%f9, %e9, H9⟩, Hk⟩
    obtain rfl := w0.eq_unread e0; obtain rfl := w1.eq_unread e1; obtain rfl := w2.eq_unread e2; obtain rfl := w3.eq_unread e3; obtain rfl := w4.eq_unread e4; obtain rfl := w5.eq_unread e5; obtain rfl := w6.eq_unread e6; obtain rfl := w8.eq_unread e8; obtain rfl := w9.eq_unread e9
    sl_exec (disch := first | sl_exact c1 | sl_exact c2 | sl_exact c3 | sl_exact c4)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]; · iexists _; iexact H7
    isplitl [H8]
    · iexists _; isplitr; · ipureintro; exact w8.read_unread _
      iexact H8
    iexists _; isplitr; · ipureintro; exact w9.read_unread _
    iexact H9

end Cert.Projection

end
-- ==== Proof.ProjFrame.lean ====
/-
  The input projection's launch. A row of tiles takes ten grid points; what the carried buffer and the second
  result's buffer hold during the row is what its first point stored, so both are named by that point. The
  second result's tile is written back after the row's last point, which stores nothing into its buffer: the
  buffer still holds the first point's tile.
-/
module

public import proofs.«01_k».proof.Proof.ProjRun
public import Idealize.ShloMosaic.Lib.Pipeline.TableIdle
public import Idealize.ShloMosaic.Lib.WordCmp
public import Idealize.ShloMosaic.Lib.Claim

@[expose] public section

set_option maxRecDepth 16384

noncomputable section

namespace Cert.Projection

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-! ## The points -/

/-- Which of the body's four branches a point takes. -/
theorem branches : ∀ t : Fin grid0.N,
    (k0_cond1 (grid0.coords t) = 1#1 ↔ t.val % 10 = 0) ∧ ¬ k0_cond2 (grid0.coords t) = 1#1
    ∧ (k0_cond3 (grid0.coords t) = 1#1 ↔ t.val % 10 = 1) ∧ (k0_cond4 (grid0.coords t) = 1#1 ↔ 2 ≤ t.val % 10) := by
  decide +kernel

/-- The first result's buffer is stored into at every point, the second's at the first point of each row. -/
theorem stored : ∀ t : Fin cfg0.N, cfg0.idle 7 (grid0.coords t) = false
    ∧ cfg0.idle 8 (grid0.coords t) = !decide (t.val % 10 = 0) := by decide +kernel

/-- Between the rows, and only there, nothing that was stored in the second result's buffer waits to be written back. -/
theorem emptied (t : Fin cfg0.N) : cfg0.fresh 8 t.val = decide (t.val % 10 = 0) :=
  Pipeline.Cfg.fresh_tab cfg0 8 (fun n => decide (n % 10 = 0)) rfl (by decide +kernel) t.val (Nat.le_of_lt t.isLt)

theorem total : cfg0.N = 320 := N_0

/-- The first point of the row that a point lies in. -/
def head (t : Fin cfg0.N) : Fin cfg0.N := ⟨t.val / 10 * 10, Nat.lt_of_le_of_lt (Nat.div_mul_le_self _ _) t.isLt⟩

theorem head_mod (t : Fin cfg0.N) : (head t).val % 10 = 0 := Nat.mul_mod_left _ _

theorem head_self (h : t.val % 10 = 0) : head t = t := Fin.ext (by unfold head; dsimp only; omega)

theorem head_before (h : ¬ t.val % 10 = 0) (hn : t.val - 1 < cfg0.N) : head ⟨t.val - 1, hn⟩ = head t :=
  Fin.ext (by unfold head; dsimp only; omega)

/-! ## The buffers at a point -/

abbrev buf0 (t : Fin cfg0.N) : Memref sig .tc .vmem S1024x2048 .f32 := win0_0.stage (cfg0.slots t 0)
theorem whole0 (t : Fin cfg0.N) : (buf0 t).IsWhole := hstage0_0 ((cfg0.slots t 0).cast nbuf0_0)
abbrev buf1 (t : Fin cfg0.N) : Memref sig .tc .vmem S1x6x2048 .f32 := win0_1.stage (cfg0.slots t 1)
theorem whole1 (t : Fin cfg0.N) : (buf1 t).IsWhole := hstage0_1 ((cfg0.slots t 1).cast nbuf0_1)
abbrev buf2 (t : Fin cfg0.N) : Memref sig .tc .vmem S1x2048 .f32 := win0_2.stage (cfg0.slots t 2)
theorem whole2 (t : Fin cfg0.N) : (buf2 t).IsWhole := hstage0_2 ((cfg0.slots t 2).cast nbuf0_2)
abbrev buf3 (t : Fin cfg0.N) : Memref sig .tc .vmem S1x2048x1536 .bf16 := win0_3.stage (cfg0.slots t 3)
theorem whole3 (t : Fin cfg0.N) : (buf3 t).IsWhole := hstage0_3 ((cfg0.slots t 3).cast nbuf0_3)
abbrev buf4 (t : Fin cfg0.N) : Memref sig .tc .vmem S1x2048x128 .bf16 := win0_4.stage (cfg0.slots t 4)
theorem whole4 (t : Fin cfg0.N) : (buf4 t).IsWhole := hstage0_4 ((cfg0.slots t 4).cast nbuf0_4)
abbrev buf5 (t : Fin cfg0.N) : Memref sig .tc .vmem S1024x128 .f32 := win0_5.stage (cfg0.slots t 5)
theorem whole5 (t : Fin cfg0.N) : (buf5 t).IsWhole := hstage0_5 ((cfg0.slots t 5).cast nbuf0_5)
abbrev buf6 (t : Fin cfg0.N) : Memref sig .tc .vmem S1024x128 .f32 := win0_6.stage (cfg0.slots t 6)
theorem whole6 (t : Fin cfg0.N) : (buf6 t).IsWhole := hstage0_6 ((cfg0.slots t 6).cast nbuf0_6)
abbrev buf7 (t : Fin cfg0.N) : Memref sig .tc .vmem S1024x1536 .bf16 := win0_7.stage (cfg0.slots t 7)
theorem whole7 (t : Fin cfg0.N) : (buf7 t).IsWhole := hstage0_7 ((cfg0.slots t 7).cast nbuf0_7)
abbrev buf8 (t : Fin cfg0.N) : Memref sig .tc .vmem S1024x128 .f32 := win0_8.stage (cfg0.slots t 8)
theorem whole8 (t : Fin cfg0.N) : (buf8 t).IsWhole := hstage0_8 ((cfg0.slots t 8).cast nbuf0_8)

/-- The carried buffer, and one buffer of each result to read stored tiles through. -/
abbrev carried : Memref sig .tc .vmem S1024x2048 .bf16 := Memref.whole cc0_scratch0
abbrev read7 : View sig .tc .vmem S1024x1536 .bf16 := (Memref.whole cc0_stg7_0 : Memref sig .tc .vmem S1024x1536 .bf16).view
abbrev read8 : View sig .tc .vmem S1024x128 .f32 := (Memref.whole cc0_stg8_0 : Memref sig .tc .vmem S1024x128 .f32).view

/-- What the launch hands the body beside the windows: the carried buffer at anything, and the generator. -/
theorem entry_eq : (Pipeline.ΦA spec0 c : sProp 𝕄)
    = iprop(iprop((∃ d, owns (c : Thread nD τ) carried fullShare d)) ∗ (∃ r, prngReg c r)) := by
  unfold Pipeline.ΦA; rw [scopedRest0_eq]; simp only [carried, owns_whole]; try rfl

/-! ## The three runs at a point -/

abbrev atFirst (h : t.val % 10 = 0) :=
  runFirst (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) carried (Memref.isWhole_whole _)
    (iblk m c 0 t) (iblk m c 1 t) (iblk m c 2 t) (iblk m c 3 t) (iblk m c 4 t) (iblk m c 5 t) (iblk m c 6 t) ((branches t).1.mpr h) (branches t).2.1
    (fun h' => by have := (branches t).2.2.1.mp h'; omega) (fun h' => by have := (branches t).2.2.2.mp h'; omega)

abbrev atSecond (h : t.val % 10 = 1) (kept : Vec F S1024x2048 .bf16) :=
  runSecond (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) carried (Memref.isWhole_whole _)
    (iblk m c 0 t) (iblk m c 1 t) (iblk m c 2 t) (iblk m c 3 t) (iblk m c 4 t) (iblk m c 5 t) (iblk m c 6 t) (fun h' => by have := (branches t).1.mp h'; omega) (branches t).2.1
    ((branches t).2.2.1.mpr h) (fun h' => by have := (branches t).2.2.2.mp h'; omega) kept

abbrev atLater (h : 2 ≤ t.val % 10) (kept : Vec F S1024x2048 .bf16) :=
  runLater (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) carried (Memref.isWhole_whole _)
    (iblk m c 0 t) (iblk m c 1 t) (iblk m c 2 t) (iblk m c 3 t) (iblk m c 4 t) (iblk m c 5 t) (iblk m c 6 t) (fun h' => by have := (branches t).1.mp h'; omega) (branches t).2.1
    (fun h' => by have := (branches t).2.2.1.mp h'; omega) ((branches t).2.2.2.mpr h) kept

/-! Each run's pieces fill the buffers that it stores into. -/

theorem fill7_first (h : t.val % 10 = 0) (y : S1024x1536.Idx) : ∃ pc ∈ (atFirst m c t h).1, y ∈ pc.1.set :=
  View.cover_of_tiledL (atFirst m c t h).1 S256x1536.size (by rfl) y
theorem fill8_first (h : t.val % 10 = 0) (y : S1024x128.Idx) : ∃ pc ∈ (atFirst m c t h).2.1, y ∈ pc.1.set :=
  View.cover_of_tiledL (atFirst m c t h).2.1 S256x128.size (by rfl) y
theorem fill_carried (h : t.val % 10 = 0) (y : S1024x2048.Idx) : ∃ pc ∈ (atFirst m c t h).2.2.1, y ∈ pc.1.set :=
  View.cover_of_tiledL (atFirst m c t h).2.2.1 S256x2048.size (by rfl) y
theorem fill7_second (h : t.val % 10 = 1) (k) (y : S1024x1536.Idx) : ∃ pc ∈ (atSecond m c t h k).1, y ∈ pc.1.set :=
  View.cover_of_tiledL (atSecond m c t h k).1 S256x1536.size (by rfl) y
theorem fill7_later (h : 2 ≤ t.val % 10) (k) (y : S1024x1536.Idx) : ∃ pc ∈ (atLater m c t h k).1, y ∈ pc.1.set :=
  View.cover_of_tiledL (atLater m c t h k).1 S256x1536.size (by rfl) y

/-! ## What the buffers hold -/

/-- The hidden rows that a row's first point keeps. -/
def keptOf (h : t.val % 10 = 0) : Vec F S1024x2048 .bf16 :=
  carried.view.read (Elt F) (carried.view.writes (Elt F) carried.view.junk (atFirst m c t h).2.2.1)
/-- The second result's tile that it stores. -/
def sideOf (h : t.val % 10 = 0) : Vec F S1024x128 .f32 :=
  read8.read (Elt F) (read8.writes (Elt F) read8.junk (atFirst m c t h).2.1)

/-- The carried buffer and the second result's buffer after a point: the row's first point's. -/
def kept : Vec F S1024x2048 .bf16 := keptOf m c (head t) (head_mod t)
def side : Vec F S1024x128 .f32 := sideOf m c (head t) (head_mod t)

theorem keptOf_congr : ∀ (t t' : Fin cfg0.N) (h : t.val % 10 = 0) (h' : t'.val % 10 = 0), t = t' → keptOf m c t h = keptOf m c t' h' := by
  rintro t _ h h' rfl; rfl
theorem sideOf_congr : ∀ (t t' : Fin cfg0.N) (h : t.val % 10 = 0) (h' : t'.val % 10 = 0), t = t' → sideOf m c t h = sideOf m c t' h' := by
  rintro t _ h h' rfl; rfl

theorem kept_first (h : t.val % 10 = 0) : kept m c t = keptOf m c t h := keptOf_congr m c _ _ _ _ (head_self t h)
theorem side_first (h : t.val % 10 = 0) : side m c t = sideOf m c t h := sideOf_congr m c _ _ _ _ (head_self t h)
theorem kept_before (h : ¬ t.val % 10 = 0) (hn : t.val - 1 < cfg0.N) : kept m c ⟨t.val - 1, hn⟩ = kept m c t :=
  keptOf_congr m c _ _ _ _ (head_before t h hn)
theorem side_before (h : ¬ t.val % 10 = 0) (hn : t.val - 1 < cfg0.N) : side m c ⟨t.val - 1, hn⟩ = side m c t :=
  sideOf_congr m c _ _ _ _ (head_before t h hn)

/-- The pieces of the first result's tile. -/
def pieces : List (View.Piece (Elt F) S1024x1536 .bf16) :=
  if h : t.val % 10 = 0 then (atFirst m c t h).1
  else if h1 : t.val % 10 = 1 then (atSecond m c t h1 (kept m c t)).1
  else (atLater m c t (by omega) (kept m c t)).1

/-- The first result's tile after a point. -/
def main_tile : Vec F S1024x1536 .bf16 := read7.read (Elt F) (read7.writes (Elt F) read7.junk (pieces m c t))

theorem main_first (h : t.val % 10 = 0) :
    main_tile m c t = read7.read (Elt F) (read7.writes (Elt F) read7.junk (atFirst m c t h).1) := by
  unfold main_tile pieces; rw [dif_pos h]
theorem main_second (h : t.val % 10 = 1) :
    main_tile m c t = read7.read (Elt F) (read7.writes (Elt F) read7.junk (atSecond m c t h (kept m c t)).1) := by
  unfold main_tile pieces; rw [dif_neg (by omega), dif_pos h]
theorem main_later (h : 2 ≤ t.val % 10) :
    main_tile m c t = read7.read (Elt F) (read7.writes (Elt F) read7.junk (atLater m c t h (kept m c t)).1) := by
  unfold main_tile pieces; rw [dif_neg (by omega), dif_neg (by omega)]

/-- The invariant before the point of a number: before the first the launch's; afterwards the carried buffer holds
    what the point before left. -/
def holds : (n : ℕ) → n ≤ cfg0.N → sProp 𝕄
  | 0, _ => Pipeline.ΦA spec0 c
  | n + 1, hn => iprop(iprop(owns (c : Thread nD τ) carried fullShare (kept m c ⟨n, hn⟩)) ∗ (∃ r, prngReg c r))

theorem holds_zero (n : ℕ) (h : n ≤ cfg0.N) (hz : n = 0) : holds m c n h = Pipeline.ΦA spec0 c := by
  subst hz; rfl
theorem holds_succ (n : ℕ) (hn : n < cfg0.N) : holds m c (n + 1) hn
    = iprop(iprop(owns (c : Thread nD τ) carried fullShare (kept m c ⟨n, hn⟩)) ∗ (∃ r, prngReg c r)) := rfl
theorem holds_pos (n : ℕ) (h : n ≤ cfg0.N) (hz : n ≠ 0) : holds m c n h
    = iprop(iprop(owns (c : Thread nD τ) carried fullShare (kept m c ⟨n - 1, by omega⟩)) ∗ (∃ r, prngReg c r)) := by
  cases n with
  | zero => exact absurd rfl hz
  | succ n => rfl

/-- The launch's proof data: the arrays as launched, every input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => main_tile m c t
    | ⟨8, _⟩ => side m c t
  Φ t := holds m c t.val (Nat.le_of_lt_succ t.isLt)
  q _ := fullShare
  owed _ := 0

theorem arrays (c : Dev nD) (w : Fin cfg0.W) : (dats m 0 c).A w = V m c (Pipeline.arrRef spec0 w) := by
  dsimp only [dats]
theorem invariant : (dats m 0 c).Φ t.castSucc = holds m c t.val (Nat.le_of_lt t.isLt) := by
  dsimp only [dats]; exact Pipeline.Dat.Φ_castSucc (holds m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = main_tile m c t := by dsimp only [dats]
theorem after8 (c : Dev nD) (t : Fin cfg0.N) : (dats m 0 c).after 8 t = side m c t := by dsimp only [dats]
theorem before0 (d) : (dats m 0 c).before 0 t d = iblk m c 0 t :=
  before0_0_of m (dats m 0 c) (arrays m c 0) (after0 m c) t d
theorem before1 (d) : (dats m 0 c).before 1 t d = iblk m c 1 t :=
  before0_1_of m (dats m 0 c) (arrays m c 1) (after1 m c) t d
theorem before2 (d) : (dats m 0 c).before 2 t d = iblk m c 2 t :=
  before0_2_of m (dats m 0 c) (arrays m c 2) (after2 m c) t d
theorem before3 (d) : (dats m 0 c).before 3 t d = iblk m c 3 t :=
  before0_3_of m (dats m 0 c) (arrays m c 3) (after3 m c) t d
theorem before4 (d) : (dats m 0 c).before 4 t d = iblk m c 4 t :=
  before0_4_of m (dats m 0 c) (arrays m c 4) (after4 m c) t d
theorem before5 (d) : (dats m 0 c).before 5 t d = iblk m c 5 t :=
  before0_5_of m (dats m 0 c) (arrays m c 5) (after5 m c) t d
theorem before6 (d) : (dats m 0 c).before 6 t d = iblk m c 6 t :=
  before0_6_of m (dats m 0 c) (arrays m c 6) (after6 m c) t d
theorem leaves0 : (dats m 0 c).leavesExact 0 t = (owns (c : Thread nD τ) (buf0 t) fullShare (iblk m c 0 t) : sProp 𝕄) := by
  rw [← after0 m c t]
theorem leaves1 : (dats m 0 c).leavesExact 1 t = (owns (c : Thread nD τ) (buf1 t) fullShare (iblk m c 1 t) : sProp 𝕄) := by
  rw [← after1 m c t]
theorem leaves2 : (dats m 0 c).leavesExact 2 t = (owns (c : Thread nD τ) (buf2 t) fullShare (iblk m c 2 t) : sProp 𝕄) := by
  rw [← after2 m c t]
theorem leaves3 : (dats m 0 c).leavesExact 3 t = (owns (c : Thread nD τ) (buf3 t) fullShare (iblk m c 3 t) : sProp 𝕄) := by
  rw [← after3 m c t]
theorem leaves4 : (dats m 0 c).leavesExact 4 t = (owns (c : Thread nD τ) (buf4 t) fullShare (iblk m c 4 t) : sProp 𝕄) := by
  rw [← after4 m c t]
theorem leaves5 : (dats m 0 c).leavesExact 5 t = (owns (c : Thread nD τ) (buf5 t) fullShare (iblk m c 5 t) : sProp 𝕄) := by
  rw [← after5 m c t]
theorem leaves6 : (dats m 0 c).leavesExact 6 t = (owns (c : Thread nD τ) (buf6 t) fullShare (iblk m c 6 t) : sProp 𝕄) := by
  rw [← after6 m c t]
theorem leaves7 : (dats m 0 c).leavesExact 7 t = (owns (c : Thread nD τ) (buf7 t) fullShare (main_tile m c t) : sProp 𝕄) := by
  rw [← after7 m c t]; unfold Dat.leavesExact; rw [show cfg0.idle 7 (cfg0.grid.coords t) = false from (stored t).1]
theorem leaves8_first (h : t.val % 10 = 0) :
    (dats m 0 c).leavesExact 8 t = (owns (c : Thread nD τ) (buf8 t) fullShare (side m c t) : sProp 𝕄) := by
  rw [← after8 m c t]; unfold Dat.leavesExact
  rw [show cfg0.idle 8 (cfg0.grid.coords t) = false from by rw [(stored t).2]; simp [h]]

/-- Past its first point a row leaves the second result's buffer as it was. -/
theorem unmoved : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  rw [(stored t).2] at hi
  rw [after8, after8]
  exact (side_before m c t (by simpa using hi) _).symm

/-- So such a point hands the buffer on as the data say, also where it is written back. -/
theorem leaves8_later (h : ¬ t.val % 10 = 0) (d) :
    owns (c : Thread nD τ) (buf8 t) fullShare ((dats m 0 c).before 8 t d) ⊢ ((dats m 0 c).leavesExact 8 t : sProp 𝕄) := by
  have hi : cfg0.idle 8 (grid0.coords t) = true := by rw [(stored t).2]; simp [h]
  have hf : cfg0.fresh 8 t.val = false := by rw [emptied t]; simp [h]
  cases hfl : (cfg0.win 8).flush t
  · rw [Dat.leavesExact_idle (dats m 0 c) 8 t hi hfl]
    iintro H
    iexists d
    iexact H
  · have hz : t.val ≠ 0 := by omega
    rw [Dat.before_out_traj (dats m 0 c) 8 rfl (fun _ _ => rfl) (unmoved m c) t.val t rfl d, hf, if_neg Bool.false_ne_true,
      ← unmoved m c t hz hi hf]
    unfold Dat.leavesExact
    rw [hi, hfl]

/-! ## The body at a point -/

/-- What the body is called with, window by window, and what it returns. -/
def given : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d)))
def left : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Whatever the point, the invariant gives the launch's back: the carried buffer's contents are forgotten. -/
theorem forget (n : ℕ) (h : n ≤ cfg0.N) : holds m c n h ⊢ Pipeline.ΦA spec0 c := by
  by_cases hz : n = 0
  · rw [holds_zero m c n h hz]
  · rw [holds_pos m c n h hz, entry_eq]
    iintro ⟨HS, Hg⟩
    isplitl [HS]
    · iexists _; iexact HS
    iexact Hg

set_option maxHeartbeats 4000000 in
theorem body_first (h : t.val % 10 = 0) :
    given m c t ⊢ wp frame (wpE (defs₀ (F := F)) Variants.none c none) Set.univ (bodyAt0 t) (fun _ => left m c t) := by
  unfold given left bodyAt0
  simp only [before0, before1, before2, before3, before4, before5, before6]
  rw [show (dats m 0 c).owesAt () t.succ = (dats m 0 c).owesAt () t.castSucc from rfl,
    show (dats m 0 c).Φ t.succ = holds m c (t.val + 1) t.isLt from rfl, holds_succ,
    leaves0, leaves1, leaves2, leaves3, leaves4, leaves5, leaves6, leaves7]
  rw [invariant m c t, leaves8_first m c t h, main_first m c t h, side_first m c t h, kept_first m c t h]
  unfold keptOf sideOf
  have hw := forget m c t.val (Nat.le_of_lt t.isLt)
  rw [entry_eq] at hw
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HW := hw $$ HΦ
  icases HW with ⟨HS, Hg⟩
  iapply ((atFirst m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, ⟨%e7, H7⟩, ⟨%e8, H8⟩, ⟨%e9, HS⟩⟩
  isplitl [HS Hg]
  · isplitl [HS]
    · unfold owns; iexists _; isplitr
      swap; · iexact HS
      ipureintro; exact View.read_writes_of_cover _ _ _ _ _ (fill_carried m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (fill7_first m c t h)
  unfold owns; iexists _; isplitr
  swap; · iexact H8
  ipureintro; exact View.read_writes_of_cover _ _ _ _ _ (fill8_first m c t h)

set_option maxHeartbeats 4000000 in
theorem body_second (h : t.val % 10 = 1) :
    given m c t ⊢ wp frame (wpE (defs₀ (F := F)) Variants.none c none) Set.univ (bodyAt0 t) (fun _ => left m c t) := by
  unfold given left bodyAt0
  simp only [before0, before1, before2, before3, before4, before5, before6]
  rw [show (dats m 0 c).owesAt () t.succ = (dats m 0 c).owesAt () t.castSucc from rfl,
    show (dats m 0 c).Φ t.succ = holds m c (t.val + 1) t.isLt from rfl, holds_succ,
    leaves0, leaves1, leaves2, leaves3, leaves4, leaves5, leaves6, leaves7]
  have hne : ¬ t.val % 10 = 0 := by omega
  rw [invariant m c t, holds_pos m c _ _ (by omega), kept_before m c t hne, main_second m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atSecond m c t h (kept m c t)).2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  iintro ⟨H0, H1, H2, H3, H4, H5, H6, ⟨%e7, H7⟩, H8, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (fill7_second m c t h _)
  iapply (leaves8_later m c t hne d8)
  iexact H8

set_option maxHeartbeats 4000000 in
theorem body_later (h : 2 ≤ t.val % 10) :
    given m c t ⊢ wp frame (wpE (defs₀ (F := F)) Variants.none c none) Set.univ (bodyAt0 t) (fun _ => left m c t) := by
  unfold given left bodyAt0
  simp only [before0, before1, before2, before3, before4, before5, before6]
  rw [show (dats m 0 c).owesAt () t.succ = (dats m 0 c).owesAt () t.castSucc from rfl,
    show (dats m 0 c).Φ t.succ = holds m c (t.val + 1) t.isLt from rfl, holds_succ,
    leaves0, leaves1, leaves2, leaves3, leaves4, leaves5, leaves6, leaves7]
  have hne : ¬ t.val % 10 = 0 := by omega
  rw [invariant m c t, holds_pos m c _ _ (by omega), kept_before m c t hne, main_later m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atLater m c t h (kept m c t)).2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  iintro ⟨H0, H1, H2, H3, H4, H5, H6, ⟨%e7, H7⟩, H8, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (fill7_later m c t h _)
  iapply (leaves8_later m c t hne d8)
  iexact H8

theorem body (t : Fin cfg0.N) :
    given m c t ⊢ wp frame (wpE (defs₀ (F := F)) Variants.none c none) Set.univ (bodyAt0 t) (fun _ => left m c t) :=
  if h : t.val % 10 = 0 then body_first m c t h
  else if h1 : t.val % 10 = 1 then body_second m c t h1
  else body_later m c t (by omega)

theorem table_row (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, table_row]
  exact triple_restated (body m c t) rfl .rfl fun _ => .rfl

/-! ## The launch -/

set_option backward.isDefEq.respectTransparency.types false in
/-- Every run ends with the arrays at what the data say and all counters at zero. -/
theorem launch : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m)
    (hin := fun c => by
      rw [show (dats m 0 c).Φ 0 = holds m c 0 (Nat.zero_le _) from rfl, holds_zero m c 0 _ rfl])
    (hout := fun c => forget m c cfg0.N (Nat.le_refl _))

/-- The arguments end unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (arrays m) ((θ_run defs _ _).mono (fun _ h => h.1) (launch m ρ)))
    ((θ_run defs _ _).mono (fun _ h => h.2) (launch m ρ))

end Cert.Projection

end
-- ==== Proof.ProjRows.lean ====
/-
  What a point of the input projection's grid keeps and computes, group of rows by group of rows.
-/
module

public import proofs.«01_k».proof.Proof.ProjTarget
public import proofs.«01_k».proof.Proof.ProjFrame
public import Idealize.ShloMosaic.Lib.Pipeline.ValueKit
public import Idealize.ShloMosaic.Lib.Pointwise
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem

namespace Cert.Projection

open Cert.InProjIdeal

section Kernel

open Cert.InProjIdeal.Gen

/-- The tiles that the grid point `(i, j)` writes and the blocks that it reads. -/
theorem tiles : ∀ t : Fin grid0.N,
    win0_0.index t = ![t.val / 10, 0] ∧ win0_1.index t = ![t.val / 10 / 4, 0, 0]
    ∧ win0_2.index t = ![0, 0] ∧ win0_3.index t = ![0, 0, t.val % 10]
    ∧ win0_4.index t = ![0, 0, 0] ∧ win0_5.index t = ![t.val / 10, 0] ∧ win0_6.index t = ![t.val / 10, 0]
    ∧ win0_7.index t = ![t.val / 10, t.val % 10] ∧ win0_8.index t = ![t.val / 10, 0]
    ∧ t.val / 10 < 32 ∧ t.val % 10 < 10 := by decide +kernel

variable (m : (ℓ : Loc nD τ sig) → Buf (Elt Ideal) ℓ) (c : Dev nD) (t : Fin cfg0.N)

theorem points : t.val / 10 < 32 := (tiles t).2.2.2.2.2.2.2.2.2.1

/-- The hidden rows, the products and the rotated products from the arguments as they are in memory. -/
abbrev hid : FVec Ideal S32768x2048 .f32 :=
  hidden (m ((c : Thread nD τ).loc main_arg0)) (m ((c : Thread nD τ).loc main_arg1)) (m ((c : Thread nD τ).loc main_arg2))
abbrev prod : FVec Ideal S32768x15360 .f32 := product (hid m c) (m ((c : Thread nD τ).loc main_arg3))
abbrev rot : FVec Ideal S32768x15360 .f32 :=
  rotated (prod m c) (m ((c : Thread nD τ).loc main_arg5)) (m ((c : Thread nD τ).loc main_arg6))

/-- The place in the whole array of a place of a tile's group of rows that begins at row `o` of the tile. -/
abbrev row (o : ℕ) (ho : o + 256 ≤ 1024) (r : Fin 256) : Fin 32768 :=
  ⟨1024 * (t.val / 10) + (o + r.val), by have := points t; omega⟩
abbrev col (k : Fin 1536) : Fin 15360 := ⟨1536 * (t.val % 10) + k.val, by omega⟩

/-- The rows kept at a point. -/
theorem kept_eq : kept m c t = fun y : S1024x2048.Idx =>
    hid m c (ix2 ⟨1024 * (t.val / 10) + (y 0).val, by have := points t; idx_bounds y; omega⟩ (y 1)) := by
  funext y
  obtain ⟨e0, e1, e2, e3, e4, e5, e6, e7, e8, hi, hj⟩ := tiles (head t)
  have ht : (head t).val / 10 = t.val / 10 := by unfold head; dsimp only; omega
  rw [ht] at e0 e1
  unfold kept keptOf
  dsimp only [atFirst, runFirst]
  frame_out
  unfold hid hidden
  canon_tiles x h
  all_goals
    simp only [keep0, keep1, keep2, keep3]
    refine (rows_apply _ _ _ _ x).trans ?_
    pointwise
    blk_point [iblk, V, e0, e1, e2]

/-- The second result's tile at a point: its rows' products with the second weight. -/
theorem side_eq : side m c t = fun y : S1024x128.Idx =>
    beside (hid m c) (m ((c : Thread nD τ).loc main_arg4))
      (ix2 ⟨1024 * (t.val / 10) + (y 0).val, by have := points t; idx_bounds y; omega⟩ (y 1)) := by
  funext y
  obtain ⟨e0, e1, e2, e3, e4, e5, e6, e7, e8, hi, hj⟩ := tiles (head t)
  have ht : (head t).val / 10 = t.val / 10 := by unfold head; dsimp only; omega
  rw [ht] at e0 e1
  unfold side sideOf
  dsimp only [atFirst, runFirst]
  frame_out
  unfold beside hid hidden
  canon_tiles x h
  all_goals
    simp only [beside1, beside2, beside3]
    refine (beside_apply _ _ _ _ _ x).trans ?_
    simp only [rows_apply]
    pointwise
    blk_point [iblk, V, e0, e1, e2, e4]

/-- A group of the kept rows. -/
theorem kept_rows (o : ℕ) (ho : o + 256 ≤ 1024)
    (inb : ∀ a, (![o, 0] : Fin S1024x2048.rank → ℕ) a + S256x2048.size a ≤ S1024x2048.size a) (x : S256x2048.Idx) :
    View.ld (kept m c t) (Rect.unit (s := S1024x2048) ![o, 0] S256x2048.size inb) x = hid m c (ix2 (row t o ho (x 0)) (x 1)) := by
  refine (congrFun (kept_eq m c t) _).trans (congrArg (hid m c) ?_)
  have b : ((Rect.unit (s := S1024x2048) ![o, 0] S256x2048.size inb).idx x 1).val = 0 + 1 * (x 1).val := rfl
  have p : 1024 * (t.val / 10) + (o + 1 * (x 0).val) = 1024 * (t.val / 10) + (o + (x 0).val) := by omega
  exact congrArg₂ (fun p q => ix2 (n0 := 32768) (n1 := 2048) p q) (Fin.ext p) (Fin.ext (b.trans (by omega)))

/-! ## A group of 256 rows of the first result's tile -/

section Group

variable (o : ℕ) (ho : o + 256 ≤ 1024) (H : FVec Ideal S256x2048 .bf16) (cs sn : FVec Ideal S256x128 .f32)
  (hH : ∀ x : S256x2048.Idx, H x = hid m c (ix2 (row t o ho (x 0)) (x 1)))
  (hcs : ∀ x : S256x128.Idx, cs x = m ((c : Thread nD τ).loc main_arg5) (ix2 (row t o ho (x 0)) (x 1)))
  (hsn : ∀ x : S256x128.Idx, sn x = m ((c : Thread nD τ).loc main_arg6) (ix2 (row t o ho (x 0)) (x 1)))
  (x : S256x1536.Idx)

include hH in
theorem prod_at : k0_pay28 H (iblk m c 3 t) x = prod m c (ix2 (row t o ho (x 0)) (col t (x 1))) := by
  obtain ⟨e0, e1, e2, e3, e4, e5, e6, e7, e8, hi, hj⟩ := tiles t
  refine (product_apply _ _ x).trans ?_
  simp only [hH]
  unfold prod product
  blk_point [iblk, V, e3]
  exact rfl

include hH in
/-- Columns past the queries' and keys'. -/
theorem plain_at (hk : 2560 ≤ (col t (x 1)).val) :
    k0_pay28 H (iblk m c 3 t) x = rot m c (ix2 (row t o ho (x 0)) (col t (x 1))) := by
  rw [prod_at m c t o ho H hH x]
  show _ = rotatedAt _ _ _ (row t o ho (x 0)) (col t (x 1))
  unfold rotatedAt
  rw [if_neg (by omega)]

include hH hcs hsn in
/-- The queries' and keys' columns; a tile's first column is a head's first. -/
theorem turned_at (hk : (col t (x 1)).val < 2560) :
    rope12 (k0_pay28 H (iblk m c 3 t)) cs sn x = rot m c (ix2 (row t o ho (x 0)) (col t (x 1))) := by
  unfold rope12
  simp only [prod_at m c t o ho H hH, hcs, hsn]
  show _ = rotatedAt _ _ _ (row t o ho (x 0)) (col t (x 1))
  unfold rotatedAt
  rw [if_pos hk]
  have e1 : (⟨(col t (x 1)).val % 128, by omega⟩ : Fin 128) = ⟨(x 1).val % 128, by omega⟩ :=
    Fin.ext (by dsimp only; omega)
  have e2 : (⟨(col t (x 1)).val / 128 * 128 + ((col t (x 1)).val + 64) % 128, by omega⟩ : Fin 15360)
      = col t ⟨(x 1).val / 128 * 128 + ((x 1).val + 64) % 128, by idx_bounds x; omega⟩ :=
    Fin.ext (by dsimp only; omega)
  rw [e1, e2]
  exact rfl

end Group

/-- The first result's tile at a point. -/
def tile : FVec Ideal S1024x1536 .bf16 := fun y =>
  rot m c (ix2 ⟨1024 * (t.val / 10) + (y 0).val, by have := points t; idx_bounds y; omega⟩ (col t (y 1)))

/-- The tile at a place of the group that begins at row `o`. -/
theorem place (o : ℕ) (ho : o + 256 ≤ 1024) (x : S256x1536.Idx) (y : S1024x1536.Idx) (h0 : (y 0).val = o + (x 0).val)
    (h1 : (y 1).val = (x 1).val) (v : EReal) (hv : v = rot m c (ix2 (row t o ho (x 0)) (col t (x 1)))) : v = tile m c t y := by
  rw [hv]
  unfold tile
  have e : (⟨1024 * (t.val / 10) + (y 0).val, by have := points t; idx_bounds y; omega⟩ : Fin 32768) = row t o ho (x 0) :=
    Fin.ext (by dsimp only; omega)
  rw [e, show y 1 = x 1 from Fin.ext h1]

end Kernel

end Cert.Projection

end
-- ==== Proof.ProjTiles.lean ====
/-
  The input projection's tiles at the three kinds of points, and so its two result arrays.
-/
module

public import proofs.«01_k».proof.Proof.ProjRows
public import Idealize.ShloMosaic.Lib.Pipeline.ValueKit
public import Idealize.ShloMosaic.Lib.Pointwise
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem

namespace Cert.Projection

open Cert.InProjIdeal

section Kernel

open Cert.InProjIdeal.Gen

variable (m : (ℓ : Loc nD τ sig) → Buf (Elt Ideal) ℓ) (c : Dev nD) (t : Fin cfg0.N)

theorem first_tile (hz : t.val % 10 = 0) : main_tile m c t = tile m c t := by
  funext y
  obtain ⟨e0, e1, e2, e3, e4, e5, e6, e7, e8, hi, hj⟩ := tiles t
  rw [main_first m c t hz]
  dsimp only [atFirst, runFirst]
  frame_out
  canon_tiles x h
  all_goals
    simp only [first0, first1, first2, first3]
    first
      | refine place m c t 768 (by decide) x y (by omega) (by omega) _ ?_
      | refine place m c t 512 (by decide) x y (by omega) (by omega) _ ?_
      | refine place m c t 256 (by decide) x y (by omega) (by omega) _ ?_
      | refine place m c t 0 (by decide) x y (by omega) (by omega) _ ?_
    refine turned_at m c t _ _ _ _ _ ?_ ?_ ?_ x (by show 1536 * (t.val % 10) + (x 1).val < 2560; omega)
    · intro x
      refine (rows_apply _ _ _ _ x).trans ?_
      unfold hid hidden
      pointwise
      blk_point [iblk, V, e0, e1, e2]
    · intro x
      blk_point [iblk, V, e5]
    · intro x
      blk_point [iblk, V, e6]

theorem second_tile (hz : t.val % 10 = 1) : main_tile m c t = tile m c t := by
  funext y
  obtain ⟨e0, e1, e2, e3, e4, e5, e6, e7, e8, hi, hj⟩ := tiles t
  rw [main_second m c t hz]
  dsimp only [atSecond, runSecond]
  frame_out
  simp only [read_unread_whole]
  canon_tiles x h
  all_goals
    simp only [second0, second1, second2, second3]
    first
      | refine place m c t 768 (by decide) x y (by omega) (by omega) _ ?_
      | refine place m c t 512 (by decide) x y (by omega) (by omega) _ ?_
      | refine place m c t 256 (by decide) x y (by omega) (by omega) _ ?_
      | refine place m c t 0 (by decide) x y (by omega) (by omega) _ ?_
    unfold mixed
    split
    · rename_i hlt
      refine turned_at m c t _ _ _ _ _ ?_ ?_ ?_ x (by show 1536 * (t.val % 10) + (x 1).val < 2560; omega)
      · exact kept_rows m c t _ _ _
      · intro x
        blk_point [iblk, V, e5]
      · intro x
        blk_point [iblk, V, e6]
    · rename_i hlt
      refine plain_at m c t _ _ _ ?_ x (by show 2560 ≤ 1536 * (t.val % 10) + (x 1).val; omega)
      exact kept_rows m c t _ _ _

theorem later_tile (hz : 2 ≤ t.val % 10) : main_tile m c t = tile m c t := by
  funext y
  obtain ⟨e0, e1, e2, e3, e4, e5, e6, e7, e8, hi, hj⟩ := tiles t
  rw [main_later m c t hz]
  dsimp only [atLater, runLater]
  frame_out
  simp only [read_unread_whole]
  canon_tiles x h
  all_goals
    simp only [later0, later1, later2, later3]
    first
      | refine place m c t 768 (by decide) x y (by omega) (by omega) _ ?_
      | refine place m c t 512 (by decide) x y (by omega) (by omega) _ ?_
      | refine place m c t 256 (by decide) x y (by omega) (by omega) _ ?_
      | refine place m c t 0 (by decide) x y (by omega) (by omega) _ ?_
    refine plain_at m c t _ _ _ ?_ x (by show 2560 ≤ 1536 * (t.val % 10) + (x 1).val; omega)
    exact kept_rows m c t _ _ _

/-- What the kernel's result arrays hold after the run. -/
theorem main_result : (dats m 0 c).arrAt 7 cfg0.N = rot m c := by
  refine (dats m 0 c).arrAt_eq_of_covers 7 _ (by decide +kernel) fun t _ y => ?_
  obtain ⟨e0, e1, e2, e3, e4, e5, e6, e7, e8, hi, hj⟩ := tiles t
  blk_simp
  rw [after7, show main_tile m c t = tile m c t from
    if h0 : t.val % 10 = 0 then first_tile m c t h0
    else if h1 : t.val % 10 = 1 then second_tile m c t h1 else later_tile m c t (by omega)]
  unfold tile
  blk_point [e7]

theorem side_result : (dats m 0 c).arrAt 8 cfg0.N = beside (hid m c) (m ((c : Thread nD τ).loc main_arg4)) := by
  refine (dats m 0 c).arrAt_eq_of_covers 8 _ (by decide +kernel) fun t _ y => ?_
  obtain ⟨e0, e1, e2, e3, e4, e5, e6, e7, e8, hi, hj⟩ := tiles t
  blk_simp
  rw [after8, side_eq]
  blk_point [e8]

end Kernel

end Cert.Projection

end
-- ==== Proof.ProjReference.lean ====
/-
  The input projection's reference, read as the same formulas.
-/
module

public import proofs.«01_k».proof.Proof.ProjTarget
public import proofs.«01_k».proof.Proof.Gen.InProjRefIdeal.Run
public import proofs.«01_k».proof.Proof.Gen.InProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Projection

open Cert.InProjIdeal

section Reference

open Cert.InProjRefIdeal.Read

variable (x : FVec Ideal S32768x2048 .f32) (mods : FVec Ideal S16x6x2048 .f32) (g : FVec Ideal S1x2048 .f32)
  (w : FVec Ideal S4x2048x15360 .bf16) (v : FVec Ideal S4x2048x128 .bf16) (cs sn : FVec Ideal S32768x128 .f32)

/-- The reference's hidden rows, products and results. -/
theorem reference_hidden : val_main_v27 (F := Ideal) x mods g = hidden x mods g := by
  funext y
  unfold hidden
  unfold val_main_v27 val_main_v26 val_main_v25 val_main_v24 val_main_v23 val_main_v22 val_main_v21 val_main_v20 val_main_v19
    val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0
    val_main_cst val_main_cst_0 val_main_cst_1 val_main_cst_2
  pointwise

theorem reference_product : val_main_v31 (F := Ideal) x mods g w = product (hidden x mods g) w := by
  rw [← reference_hidden]
  unfold val_main_v31
  generalize val_main_v27 (F := Ideal) x mods g = h
  funext y
  unfold product val_main_v30 val_main_v29 val_main_v28
  pointwise

theorem reference_beside : val_main_v51 (F := Ideal) x mods g v = beside (hidden x mods g) v := by
  rw [← reference_hidden]
  unfold val_main_v51
  generalize val_main_v27 (F := Ideal) x mods g = h
  funext y
  unfold beside val_main_v50 val_main_v49 val_main_v48
  pointwise

theorem reference_rotated : val_main_v47 (F := Ideal) x mods g w cs sn = rotated (product (hidden x mods g) w) cs sn := by
  rw [← reference_product]
  unfold val_main_v47 val_main_v46 val_main_v45 val_main_v44 val_main_v43 val_main_v42 val_main_v41 val_main_v40 val_main_v39
    val_main_v38 val_main_v37 val_main_v36 val_main_v35 val_main_v34 val_main_v33 val_main_v32
  generalize val_main_v31 (F := Ideal) x mods g w = z
  funext y
  unfold rotated rotatedAt
  idx_vars y
  pointwise
  have e1 : ∀ h, (⟨y1.val / 128 * 128 + y1.val % 128, h⟩ : Fin 15360) = y1 := fun h => Fin.ext (by dsimp only; omega)
  have e2 : ∀ (hk : 2560 ≤ y1.val) h, (⟨2560 + (y1.val - 2560), h⟩ : Fin 15360) = y1 := fun hk h =>
    Fin.ext (by dsimp only; omega)
  have e3 : ∀ (hk : y1.val % 128 < 64) h h', (⟨y1.val / 128 * 128 + (64 + y1.val % 128), h⟩ : Fin 15360)
      = ⟨y1.val / 128 * 128 + (y1.val + 64) % 128, h'⟩ := fun hk h h' => Fin.ext (by dsimp only; omega)
  have e4 : ∀ (hk : ¬ y1.val % 128 < 64) h h', (⟨y1.val / 128 * 128 + (y1.val % 128 - 64), h⟩ : Fin 15360)
      = ⟨y1.val / 128 * 128 + (y1.val + 64) % 128, h'⟩ := fun hk h h' => Fin.ext (by dsimp only; omega)
  by_cases hk : y1.val < 2560
  · refine (dif_pos hk).trans (Eq.trans ?_ (if_pos hk).symm)
    refine congrArg₂ (fun a b : EReal => a + b) (congrArg (fun k => z (ix2 y0 k) * cs (ix2 y0 ⟨y1.val % 128, by omega⟩)) (e1 _))
      (congrArg (fun a : EReal => a * sn (ix2 y0 ⟨y1.val % 128, by omega⟩)) ?_)
    by_cases hl : y1.val % 128 < 64
    · exact (dif_pos hl).trans (congrArg (fun k => z (ix2 y0 k)) (e3 hl _ _))
    · exact (dif_neg hl).trans (congrArg (fun k => z (ix2 y0 k)) (e4 hl _ _))
  · exact (dif_neg hk).trans ((congrArg (fun k => z (ix2 y0 k)) (e2 (by omega) _)).trans (if_neg hk).symm)

end Reference

end Cert.Projection

end
-- ==== Proof.InProj.lean ====
/-
  The input projection. The first point of every row of tiles normalises its rows of the stream, shifts and scales
  them by the batch entry's modulation and keeps them; every point multiplies the kept rows by its columns of the
  weight, and the heads of the queries and keys among the columns are rotated by the rows' cosines and sines. The
  first point also gives the kept rows' products with the second weight.
-/
module

public import proofs.«01_k».proof.Defs
public import proofs.«01_k».proof.Proof.ProjTiles
public import proofs.«01_k».proof.Proof.ProjReference
public import proofs.«01_k».proof.Proof.RoundedFrame

@[expose] public section

set_option maxRecDepth 16384

noncomputable section

open Idealize.ShloMosaic Idealize.ShloMosaic.TcCoe Idealize.SL.Sem

namespace Cert.Projection

open Cert.InProjIdeal

section Kernel

open Cert.InProjIdeal.Gen

/-- The kernel's run: both results from the arguments, which it leaves alone. -/
theorem results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = rot m c ∧ r.2.mem ((c.tc : Thread nD τ).loc main_v0_1) = beside (hid m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (main_result m c), ((h.1 c).1 8).trans (side_result m c),
    ((h.1 c).1 0).trans (((dats m 0 c).arrAt_in 0 rfl _).trans ((arrays m c 0).trans (V_main_arg0 m c))),
    ((h.1 c).1 1).trans (((dats m 0 c).arrAt_in 1 rfl _).trans ((arrays m c 1).trans (V_main_arg1 m c))),
    ((h.1 c).1 2).trans (((dats m 0 c).arrAt_in 2 rfl _).trans ((arrays m c 2).trans (V_main_arg2 m c))),
    ((h.1 c).1 3).trans (((dats m 0 c).arrAt_in 3 rfl _).trans ((arrays m c 3).trans (V_main_arg3 m c))),
    ((h.1 c).1 4).trans (((dats m 0 c).arrAt_in 4 rfl _).trans ((arrays m c 4).trans (V_main_arg4 m c))),
    ((h.1 c).1 5).trans (((dats m 0 c).arrAt_in 5 rfl _).trans ((arrays m c 5).trans (V_main_arg5 m c))),
    ((h.1 c).1 6).trans (((dats m 0 c).arrAt_in 6 rfl _).trans ((arrays m c 6).trans (V_main_arg6 m c)))⟩) (launch m ρ)

end Kernel

/-- Both programs from agreeing arguments end with the same results. -/
theorem agree : Cert.algebraic_InProjIdeal_InProjRefIdeal := fun m ρ m' ρ' _ hag =>
  ⟨fun c => rot m c, fun c => beside (hid m c) (m ((c : Thread nD τ).loc main_arg4)), results m ρ,
    (θ_run Cert.InProjRefIdeal.defs _ _).mono (fun _ h c => ⟨(h c).1.trans (by
        rw [Cert.InProjRefIdeal.Read.val_main_v47_eq, (hag c).1, (hag c).2.1, (hag c).2.2.1, (hag c).2.2.2.1,
          (hag c).2.2.2.2.2.1, (hag c).2.2.2.2.2.2]
        exact reference_rotated ..), (h c).2.1.trans (by
        rw [Cert.InProjRefIdeal.Read.val_main_v51_eq, (hag c).1, (hag c).2.1, (hag c).2.2.1, (hag c).2.2.2.2.1]
        exact reference_beside ..), (h c).2.2⟩)
      (Cert.InProjRefIdeal.Value.run m' ρ')⟩

/-- The three programs run and leave their arguments alone. -/
theorem frame_kernel : Cert.quiescent_InProj := fun m ρ _ => Cert.RoundedProjection.frame m ρ
theorem frame_ideal : Cert.quiescent_InProjIdeal := fun m ρ _ => Cert.Projection.frame m ρ
theorem frame_reference : Cert.quiescent_InProjRefIdeal := fun m ρ _ =>
  (θ_run Cert.InProjRefIdeal.defs _ _).mono (fun r h => ⟨fun c => (h c).2.2,
      Idealize.ShloMosaic.sem_eq_zero_of_no_sems (by decide) r.2⟩)
    (Cert.InProjRefIdeal.Value.run (F := Ideal) m ρ)

end Cert.Projection

end
-- ==== Proof.Attend.lean ====
/-
  Softmax attention of one query over the extended reals: scores `s`, a sink's score `b` that joins the denominator only,
  values `v`. Dividing every weight by the denominator and multiplying it by the denominator's reciprocal agree when the
  scores are numbers, since the denominator is positive then.
-/
module

public import Idealize.ShloMosaic.PureOps.Ideal
public import Mathlib.Data.EReal.Operations
public import Mathlib.Data.Finset.Fold

@[expose] public section

noncomputable section

open Idealize.ShloMosaic

namespace Cert.ContextAttention

/-- The value is a number. -/
def Number (x : EReal) : Prop := ∃ r : ℝ, x = r

theorem Number.mul {x y : EReal} : Number x → Number y → Number (x * y)
  | ⟨r, hr⟩, ⟨t, ht⟩ => ⟨r * t, by rw [hr, ht, EReal.coe_mul]⟩

theorem Number.sum {n : ℕ} {f : Fin n → EReal} (h : ∀ i, Number (f i)) : Number (∑ i, f i) :=
  Finset.sum_induction f Number (fun _ _ ⟨r, hr⟩ ⟨t, ht⟩ => ⟨r + t, by rw [hr, ht, EReal.coe_add]⟩) ⟨0, EReal.coe_zero.symm⟩
    fun i _ => h i

/-- A value below `⊤` in magnitude is a number. -/
theorem Number.of_abs {x : EReal} (h : max x (-x) < ⊤) : Number x := by
  have h1 := (le_max_left x (-x)).trans_lt h
  have h2 := (le_max_right x (-x)).trans_lt h
  induction x with
  | bot => simp at h2
  | top => simp at h1
  | coe r => exact ⟨r, rfl⟩

variable {n : ℕ} (s : Fin n → EReal) (b : EReal) (v : Fin n → EReal)

/-- The greatest score. -/
def peak : EReal := max (Finset.univ.fold max ⊥ s) b

/-- The denominator. -/
def total : EReal := (∑ j, Ideal.exp (s j - peak s b)) + Ideal.exp (b - peak s b)

/-- The attention's output. -/
def attend : EReal := ∑ j, Ideal.div (Ideal.exp (s j - peak s b)) (total s b) * v j

/-- The same with the weights multiplied by the denominator's reciprocal. -/
def attendInverse : EReal := ∑ j, Ideal.exp (s j - peak s b) * Ideal.div 1 (total s b) * v j

variable {s b}

theorem peak_number (hs : ∀ j, Number (s j)) (hb : Number b) : Number (peak s b) := by
  obtain ⟨r, hr⟩ := hb
  have h1 : peak s b < ⊤ := by
    refine max_lt ((Finset.fold_max_lt _).mpr ⟨bot_lt_top, fun j _ => ?_⟩) (by rw [hr]; exact EReal.coe_lt_top r)
    obtain ⟨t, ht⟩ := hs j
    rw [ht]; exact EReal.coe_lt_top t
  have h2 : ⊥ < peak s b := lt_of_lt_of_le (by rw [hr]; exact EReal.bot_lt_coe r) (le_max_right _ _)
  exact ⟨(peak s b).toReal, (EReal.coe_toReal h1.ne h2.ne').symm⟩

theorem exp_nonneg (x : EReal) : 0 ≤ Ideal.exp x := by
  induction x with
  | bot => exact le_refl _
  | top => exact le_top
  | coe r => exact EReal.coe_nonneg.mpr (Real.exp_pos r).le

theorem total_pos (hs : ∀ j, Number (s j)) (hb : Number b) : 0 < total s b := by
  obtain ⟨p, hp⟩ := peak_number hs hb
  obtain ⟨r, hr⟩ := hb
  have h : 0 < Ideal.exp (b - peak s b) := by
    rw [hp, hr, ← EReal.coe_sub]
    exact EReal.coe_pos.mpr (Real.exp_pos _)
  exact lt_of_lt_of_le h (le_add_of_nonneg_left (Finset.sum_nonneg fun j _ => exp_nonneg _))

/-- Both agree on numbers. -/
theorem attend_inverse (hs : ∀ j, Number (s j)) (hb : Number b) : attendInverse s b v = attend s b v := by
  have h := (total_pos hs hb).ne'
  refine Finset.sum_congr rfl fun j _ => ?_
  unfold Ideal.div
  rw [if_neg h, if_neg h, one_mul]

end Cert.ContextAttention

end
-- ==== Proof.ContextTarget.lean ====
/-
  The context stream's attention, place by place: row `r` is of batch entry `r / 256`, a query head is 128 columns, four
  neighbouring query heads share the keys and values of one group.
-/
module

public import proofs.«01_k».proof.Proof.Attend
public import proofs.«01_k».proof.Proof.Gen.CtxIdeal.Skeleton
public import Idealize.ShloMosaic.Lib.Pipeline.ValueKit

@[expose] public section

noncomputable section

open Idealize.ShloMosaic

namespace Cert.ContextAttention

open Cert.CtxIdeal

/-- The score of row `r`'s query of head `h` with the key of row `j` of the same batch entry. -/
def score (z : FVec Ideal S2048x15360 .bf16) (r : Fin 2048) (h : Fin 16) (j : Fin 256) : EReal :=
  (∑ d : Fin 128, z (ix2 r ⟨128 * h.val + d.val, by omega⟩)
      * z (ix2 ⟨r.val / 256 * 256 + j.val, by omega⟩ ⟨2048 + 128 * (h.val / 4) + d.val, by omega⟩))
    * Ideal.ofBits .f32 0x3DB504F3#32

/-- Column `d` of the value of row `j` of row `r`'s batch entry, in head `h`'s group. -/
def value (z : FVec Ideal S2048x15360 .bf16) (r : Fin 2048) (h : Fin 16) (d : Fin 128) (j : Fin 256) : EReal :=
  z (ix2 ⟨r.val / 256 * 256 + j.val, by omega⟩ ⟨2560 + 128 * (h.val / 4) + d.val, by omega⟩)

/-- Row `r`'s output in column `d` of head `h`. -/
def output (z : FVec Ideal S2048x15360 .bf16) (sink : FVec Ideal S16 .f32) (r : Fin 2048) (h : Fin 16) (d : Fin 128) :
    EReal := attend (score z r h) (sink (ix1 h)) (value z r h d)

/-- All outputs. -/
def outputs (z : FVec Ideal S2048x15360 .bf16) (sink : FVec Ideal S16 .f32) : FVec Ideal S2048x2048 .bf16 := fun y =>
  output z sink (y 0) ⟨(y 1).val / 128, by idx_bounds y; omega⟩ ⟨(y 1).val % 128, by omega⟩

variable {z : FVec Ideal S2048x15360 .bf16}

/-- Where queries and keys are numbers, so are the scores. -/
theorem score_number (hz : ∀ (r : Fin 2048) (k : Fin 15360), k.val < 2560 → Number (z (ix2 r k))) (r : Fin 2048) (h : Fin 16)
    (j : Fin 256) : Number (score z r h j) :=
  (Number.sum fun d => (hz _ _ (by dsimp only; omega)).mul (hz _ _ (by dsimp only; omega))).mul ⟨_, rfl⟩

end Cert.ContextAttention

end
-- ==== Proof.ContextBody.lean ====
/-
  The context attention's body at a place: four query heads are stacked into one array of rows, all of them attend to
  the same 256 keys and one sink each, and the outputs are laid side by side again.
-/
module

public import proofs.«01_k».proof.Proof.Gen.CtxIdeal.Skeleton
public import proofs.«01_k».proof.Proof.Attend
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ContextAttention

open Cert.CtxIdeal Cert.CtxIdeal.Gen

/-- The four heads of the queries one above another. -/
def stacked (q : FVec Ideal S256x512 .bf16) : FVec Ideal S1024x128 .bf16 :=
  concatenate S1024x128 0 [⟨S256x128, extractStridedSlice S256x128 ![0, 0] q slices_S256x512_o0_0_S256x128⟩,
    ⟨S256x128, extractStridedSlice S256x128 ![0, 128] q slices_S256x512_o0_128_S256x128⟩,
    ⟨S256x128, extractStridedSlice S256x128 ![0, 256] q slices_S256x512_o0_256_S256x128⟩,
    ⟨S256x128, extractStridedSlice S256x128 ![0, 384] q slices_S256x512_o0_384_S256x128⟩]
    concatenates_S256x128_S256x128_S256x128_S256x128_S1024x128_d0

theorem stacked_apply (q : FVec Ideal S256x512 .bf16) (i : Fin 1024) (d : Fin 128) :
    stacked q (ix2 i d) = q (ix2 ⟨i.val % 256, by omega⟩ ⟨128 * (i.val / 256) + d.val, by omega⟩) := by
  unfold stacked
  pointwise
  by_cases h1 : i.val < 256
  · rw [dif_pos h1]; congr 2 <;> exact Fin.ext (by dsimp only; omega)
  by_cases h2 : i.val - 256 < 256
  · rw [dif_neg h1, dif_pos h2]; congr 2 <;> exact Fin.ext (by dsimp only; omega)
  by_cases h3 : i.val - 256 - 256 < 256
  · rw [dif_neg h1, dif_neg h2, dif_pos h3]; congr 2 <;> exact Fin.ext (by dsimp only; omega)
  · rw [dif_neg h1, dif_neg h2, dif_neg h3]; congr 2 <;> exact Fin.ext (by dsimp only; omega)

/-- The rows of the four heads side by side. -/
def unstacked (o : FVec Ideal S1024x128 .f32) : FVec Ideal S256x512 .bf16 :=
  truncf .bf16 (concatenate S256x512 1 [⟨S256x128, extractStridedSlice S256x128 ![0, 0] o slices_S1024x128_o0_0_S256x128⟩,
    ⟨S256x128, extractStridedSlice S256x128 ![256, 0] o slices_S1024x128_o256_0_S256x128⟩,
    ⟨S256x128, extractStridedSlice S256x128 ![512, 0] o slices_S1024x128_o512_0_S256x128⟩,
    ⟨S256x128, extractStridedSlice S256x128 ![768, 0] o slices_S1024x128_o768_0_S256x128⟩]
    concatenates_S256x128_S256x128_S256x128_S256x128_S256x512_d1) bitsLt_bf16_f32

theorem unstacked_apply (o : FVec Ideal S1024x128 .f32) (r : Fin 256) (k : Fin 512) :
    unstacked o (ix2 r k) = o (ix2 ⟨256 * (k.val / 128) + r.val, by omega⟩ ⟨k.val % 128, by omega⟩) := by
  unfold unstacked
  pointwise
  by_cases h1 : k.val < 128
  · rw [dif_pos h1]; congr 2 <;> exact Fin.ext (by dsimp only; omega)
  by_cases h2 : k.val - 128 < 128
  · rw [dif_neg h1, dif_pos h2]; congr 2 <;> exact Fin.ext (by dsimp only; omega)
  by_cases h3 : k.val - 128 - 128 < 128
  · rw [dif_neg h1, dif_neg h2, dif_pos h3]; congr 2 <;> exact Fin.ext (by dsimp only; omega)
  · rw [dif_neg h1, dif_neg h2, dif_neg h3]; congr 2 <;> exact Fin.ext (by dsimp only; omega)

/-- The scaled products of the stacked rows with the keys. -/
def scores (q : FVec Ideal S1024x128 .bf16) (k : FVec Ideal S256x128 .bf16) : FVec Ideal S1024x256 .f32 :=
  mulf (matmul dot_S1024x128_S256x128_S1024x256_1_1_0_0_n_n none q k (constant S1024x256 .f32 0x00000000#32))
    (broadcast S1024x256 (Scalar.ofBits (F := Ideal) .f32 0x3DB504F3#32))

theorem scores_eq (q : FVec Ideal S256x512 .bf16) (k : FVec Ideal S256x128 .bf16) : k0_pay2 q k = scores (stacked q) k := rfl

theorem scores_apply (q : FVec Ideal S1024x128 .bf16) (k : FVec Ideal S256x128 .bf16) (i : Fin 1024) (j : Fin 256) :
    scores q k (ix2 i j) = (∑ d : Fin 128, q (ix2 i d) * k (ix2 j d)) * Ideal.ofBits .f32 0x3DB504F3#32 := by
  pointwise [scores]

theorem sinks_apply (s0 s1 s2 s3 : Ideal .f32) (i : Fin 1024) (z : Fin 1) :
    k0_pay3 (F := Ideal) s0 s1 s2 s3 (ix2 i z)
      = if i.val < 256 then s0 else if i.val < 512 then s1 else if i.val < 768 then s2 else s3 := by
  pointwise [k0_pay3]
  split_ifs <;> first | rfl | omega

/-- A row's greatest score, its sink's among them. -/
def top (s : FVec Ideal S1024x256 .f32) (b : FVec Ideal S1024x1 .f32) : FVec Ideal S1024x1 .f32 :=
  maximumf (shapeCast S1024x1 (multiReduction .maximumf [1] S1024 s 0xFF800000#32 reduces_S1024x256_S1024 (.inl rfl) rfl)
    shapeCasts_S1024_S1024x1) b

theorem top_eq (q : FVec Ideal S256x512 .bf16) (k : FVec Ideal S256x128 .bf16) (s0 s1 s2 s3 : Ideal .f32) :
    k0_pay4 (F := Ideal) q k s0 s1 s2 s3 = top (scores (stacked q) k) (k0_pay3 (F := Ideal) s0 s1 s2 s3) := rfl

/-- What a row of scores makes of the values. -/
def attended (s : FVec Ideal S1024x256 .f32) (b : FVec Ideal S1024x1 .f32) (v : FVec Ideal S256x128 .bf16) :
    FVec Ideal S1024x128 .f32 :=
  have p : FVec Ideal S1024x256 .f32 := exp (subf s (broadcastTo S1024x256 (top s b) broadcasts_S1024x1_S1024x256))
  have n : FVec Ideal S1024x1 .f32 := addf (shapeCast S1024x1 (multiReduction .add [1] S1024 p 0x00000000#32
    reduces_S1024x256_S1024 (.inl rfl) rfl) shapeCasts_S1024_S1024x1) (exp (subf b (top s b)))
  have r : FVec Ideal S1024x1 .f32 := divf (broadcast S1024x1 (Scalar.ofBits (F := Ideal) .f32 0x3F800000#32)) n
  matmul dot_S1024x256_S256x128_S1024x128_1_0_0_1_n_n none
    (truncf .bf16 (mulf p (broadcastTo S1024x256 r broadcasts_S1024x1_S1024x256)) bitsLt_bf16_f32 : FVec Ideal S1024x256 .bf16) v
    (constant S1024x128 .f32 0x00000000#32)

theorem attended_apply (s : FVec Ideal S1024x256 .f32) (b : FVec Ideal S1024x1 .f32) (v : FVec Ideal S256x128 .bf16)
    (i : Fin 1024) (d : Fin 128) : attended s b v (ix2 i d)
      = attendInverse (fun j : Fin 256 => s (ix2 i j)) (b (ix2 i ⟨0, by omega⟩)) (fun j : Fin 256 => v (ix2 j d)) := by
  unfold attended top
  pointwise
  exact rfl

theorem stored_eq (q : FVec Ideal S256x512 .bf16) (k v : FVec Ideal S256x128 .bf16) (s0 s1 s2 s3 : Ideal .f32) :
    k0_pay1 (F := Ideal) (k0_pay3 (F := Ideal) s0 s1 s2 s3) v (k0_pay4 (F := Ideal) q k s0 s1 s2 s3)
      (k0_pay5 (F := Ideal) q k s0 s1 s2 s3) (k0_pay6 (F := Ideal) q k s0 s1 s2 s3)
      = unstacked (attended (scores (stacked q) k) (k0_pay3 (F := Ideal) s0 s1 s2 s3) v) := rfl

end Cert.ContextAttention

end
-- ==== Proof.ContextKernel.lean ====
/-
  The kernel's context attention, place by place.
-/
module

public import proofs.«01_k».proof.Proof.ContextTarget
public import proofs.«01_k».proof.Proof.ContextBody
public import proofs.«01_k».proof.Proof.Gen.CtxIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ContextAttention

open Cert.CtxIdeal Cert.CtxIdeal.Gen

/-- The tile that the grid point `(b, h)` writes, the blocks that it reads, and its four sinks' places. -/
theorem tiles : ∀ t : Fin grid0.N,
    win0_0.index t = ![0] ∧ win0_1.index t = ![(grid0.coords t 0).val, (grid0.coords t 1).val]
    ∧ win0_2.index t = ![(grid0.coords t 0).val, 16 + (grid0.coords t 1).val]
    ∧ win0_3.index t = ![(grid0.coords t 0).val, 20 + (grid0.coords t 1).val]
    ∧ win0_4.index t = ![(grid0.coords t 0).val, (grid0.coords t 1).val]
    ∧ (k0_off1 (grid0.coords t) 0#32 = ![4 * (grid0.coords t 1).val] ∧ k0_off1 (grid0.coords t) 1#32 = ![4 * (grid0.coords t 1).val + 1]
      ∧ k0_off1 (grid0.coords t) 2#32 = ![4 * (grid0.coords t 1).val + 2] ∧ k0_off1 (grid0.coords t) 3#32 = ![4 * (grid0.coords t 1).val + 3])
    ∧ (grid0.coords t 0).val < 8 ∧ (grid0.coords t 1).val < 4 := by decide +kernel

variable (m : (ℓ : Loc nD τ sig) → Buf (Elt Ideal) ℓ) (c : Dev nD)

/-- The grid point's batch entry and group of heads. -/
def bat (t : Fin grid0.N) : Fin 8 := ⟨(grid0.coords t 0).val, (tiles t).2.2.2.2.2.2.1⟩
def grp (t : Fin grid0.N) : Fin 4 := ⟨(grid0.coords t 1).val, (tiles t).2.2.2.2.2.2.2⟩

variable (t : Fin grid0.N)

theorem queries (r : Fin 256) (k : Fin 512) : iblk m c 1 t (ix2 r k) = (m ((c : Thread nD τ).loc main_arg0))
    (ix2 ⟨256 * (bat t).val + r.val, by omega⟩ ⟨512 * (grp t).val + k.val, by omega⟩) := by
  obtain ⟨e0, e1, e2, e3, e4, o, hb, hh⟩ := tiles t
  unfold bat grp
  blk_point [iblk, V, e1]

theorem keys (j : Fin 256) (d : Fin 128) : iblk m c 2 t (ix2 j d) = (m ((c : Thread nD τ).loc main_arg0))
    (ix2 ⟨256 * (bat t).val + j.val, by omega⟩ ⟨2048 + 128 * (grp t).val + d.val, by omega⟩) := by
  obtain ⟨e0, e1, e2, e3, e4, o, hb, hh⟩ := tiles t
  unfold bat grp
  blk_point [iblk, V, e2]

theorem values (j : Fin 256) (d : Fin 128) : iblk m c 3 t (ix2 j d) = (m ((c : Thread nD τ).loc main_arg0))
    (ix2 ⟨256 * (bat t).val + j.val, by omega⟩ ⟨2560 + 128 * (grp t).val + d.val, by omega⟩) := by
  obtain ⟨e0, e1, e2, e3, e4, o, hb, hh⟩ := tiles t
  unfold bat grp
  blk_point [iblk, V, e3]

/-- The sink read at place `k`. -/
theorem sink_word (off : Fin 1 → ℕ) (k : Fin 16) (e : off = ![k.val]) (inb : ∀ a, off a + (![1] : Fin 1 → ℕ) a ≤ S16.size a)
    (i : (⟨1, ![1]⟩ : Shape).Idx) :
    View.ld (iblk m c 0 t) (Rect.unit (s := S16) off ![1] inb) i = (m ((c : Thread nD τ).loc main_arg1)) (ix1 k) := by
  obtain ⟨e0, e1, e2, e3, e4, o, hb, hh⟩ := tiles t
  subst e
  blk_point [iblk, V, e0]

/-- The group's outputs from its blocks. -/
theorem group_output (z : FVec Ideal S2048x15360 .bf16) (sink : FVec Ideal S16 .f32) (b : Fin 8) (h : Fin 4)
    (hz : ∀ (r : Fin 2048) (k : Fin 15360), k.val < 2560 → Number (z (ix2 r k))) (hs : ∀ k : Fin 16, Number (sink (ix1 k)))
    (q : FVec Ideal S256x512 .bf16) (k v : FVec Ideal S256x128 .bf16) (s0 s1 s2 s3 : Ideal .f32)
    (hq : ∀ (r : Fin 256) (k : Fin 512), q (ix2 r k) = z (ix2 ⟨256 * b.val + r.val, by omega⟩ ⟨512 * h.val + k.val, by omega⟩))
    (hk : ∀ (j : Fin 256) (d : Fin 128), k (ix2 j d) = z (ix2 ⟨256 * b.val + j.val, by omega⟩ ⟨2048 + 128 * h.val + d.val, by omega⟩))
    (hv : ∀ (j : Fin 256) (d : Fin 128), v (ix2 j d) = z (ix2 ⟨256 * b.val + j.val, by omega⟩ ⟨2560 + 128 * h.val + d.val, by omega⟩))
    (h0 : s0 = sink (ix1 ⟨4 * h.val, by omega⟩)) (h1 : s1 = sink (ix1 ⟨4 * h.val + 1, by omega⟩))
    (h2 : s2 = sink (ix1 ⟨4 * h.val + 2, by omega⟩)) (h3 : s3 = sink (ix1 ⟨4 * h.val + 3, by omega⟩)) (r : Fin 256) (x : Fin 512) :
    unstacked (attended (scores (stacked q) k) (k0_pay3 (F := Ideal) s0 s1 s2 s3) v) (ix2 r x)
      = output z sink ⟨256 * b.val + r.val, by omega⟩ ⟨4 * h.val + x.val / 128, by omega⟩ ⟨x.val % 128, by omega⟩ := by
  have hc : (fun j : Fin 256 => scores (stacked q) k (ix2 ⟨256 * (x.val / 128) + r.val, by omega⟩ j))
      = score z ⟨256 * b.val + r.val, by omega⟩ ⟨4 * h.val + x.val / 128, by omega⟩ := by
    funext j
    rw [scores_apply]
    unfold score
    refine congrArg (· * _) (Finset.sum_congr rfl fun d _ => ?_)
    rw [stacked_apply, hq, hk]
    exact congrArg₂ (· * ·)
      (congrArg₂ (fun r k => z (ix2 r k)) (Fin.ext (by dsimp only; omega)) (Fin.ext (by dsimp only; omega)))
      (congrArg₂ (fun r k => z (ix2 r k)) (Fin.ext (by dsimp only; omega)) (Fin.ext (by dsimp only; omega)))
  have hb : k0_pay3 (F := Ideal) s0 s1 s2 s3 (ix2 ⟨256 * (x.val / 128) + r.val, by omega⟩ ⟨0, by omega⟩)
      = sink (ix1 ⟨4 * h.val + x.val / 128, by omega⟩) := by
    rw [sinks_apply, h0, h1, h2, h3]
    split_ifs <;> exact congrArg (fun k => sink (ix1 k)) (Fin.ext (by dsimp only at *; omega))
  rw [unstacked_apply, attended_apply, hc, hb]
  refine (attend_inverse _ (fun j => score_number hz _ _ j) (hs _)).trans ?_
  unfold output
  refine congrArg (attend _ _) (funext fun j => ?_)
  rw [hv]
  unfold value
  exact congrArg₂ (fun r k => z (ix2 r k)) (Fin.ext (by dsimp only; omega)) (Fin.ext (by dsimp only; omega))

/-- Where that lies among all outputs. -/
theorem outputs_at (z : FVec Ideal S2048x15360 .bf16) (sink : FVec Ideal S16 .f32) (b : Fin 8) (h : Fin 4) (r : Fin 256)
    (x : Fin 512) : output z sink ⟨256 * b.val + r.val, by omega⟩ ⟨4 * h.val + x.val / 128, by omega⟩ ⟨x.val % 128, by omega⟩
      = outputs z sink (ix2 ⟨256 * b.val + r.val, by omega⟩ ⟨512 * h.val + x.val, by omega⟩) := by
  show _ = output z sink ⟨256 * b.val + r.val, by omega⟩ ⟨(512 * h.val + x.val) / 128, by omega⟩
    ⟨(512 * h.val + x.val) % 128, by omega⟩
  exact congrArg₂ (output z sink _) (Fin.ext (by dsimp only; omega)) (Fin.ext (by dsimp only; omega))

/-- What the kernel's result array holds after the run, queries, keys and sinks being numbers. -/
theorem kernel_result
    (hz : ∀ (r : Fin 2048) (k : Fin 15360), k.val < 2560 → Number ((m ((c : Thread nD τ).loc main_arg0)) (ix2 r k)))
    (hs : ∀ k : Fin 16, Number ((m ((c : Thread nD τ).loc main_arg1)) (ix1 k))) :
    (dats m 0 c).arrAt 4 cfg0.N = outputs (m ((c : Thread nD τ).loc main_arg0)) (m ((c : Thread nD τ).loc main_arg1)) := by
  refine (dats m 0 c).arrAt_eq_of_covers 4 _ (by decide +kernel) fun t _ y => ?_
  obtain ⟨e0, e1, e2, e3, e4, ⟨o0, o1, o2, o3⟩, hb, hh⟩ := tiles t
  blk_simp
  rw [after0_4]
  unfold outsAt0
  frame_out
  rw [stored_eq]
  refine (congrArg _ (eq_ix2 y)).trans ((group_output _ _ (bat t) (grp t) hz hs _ _ _ _ _ _ _ (queries m c t) (keys m c t)
    (values m c t) (sink_word m c t _ ⟨4 * (grp t).val, by omega⟩ o0 _ _) (sink_word m c t _ ⟨4 * (grp t).val + 1, by omega⟩ o1 _ _)
    (sink_word m c t _ ⟨4 * (grp t).val + 2, by omega⟩ o2 _ _) (sink_word m c t _ ⟨4 * (grp t).val + 3, by omega⟩ o3 _ _)
    (y 0) (y 1)).trans ((outputs_at _ _ _ _ _ _).trans ?_))
  unfold bat grp
  generalize outputs (m ((c : Thread nD τ).loc main_arg0)) (m ((c : Thread nD τ).loc main_arg1)) = o
  blk_point [e4]

end Cert.ContextAttention

end
-- ==== Proof.ContextReference.lean ====
/-
  The reference's context attention, place by place.
-/
module

public import proofs.«01_k».proof.Proof.ContextTarget
public import proofs.«01_k».proof.Proof.Gen.CtxRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ContextAttention

open Cert.CtxRefIdeal Cert.CtxRefIdeal.Gen Cert.CtxRefIdeal.Read

theorem reference_score (z : FVec Ideal S2048x15360 .bf16) (b : Fin 8) (h g : Fin 4) (q j : Fin 256) :
    val_main_v10 (F := Ideal) z (ix5 b h g q j)
      = score z ⟨256 * b.val + q.val, by omega⟩ ⟨4 * h.val + g.val, by omega⟩ j := by
  unfold val_main_v10 val_main_v9 val_main_cst val_main_v8 val_main_v7 val_main_v4 val_main_v3 val_main_v2 val_main_v1 val_main_v0
  unfold score
  pointwise
  refine congrArg (· * _) (Finset.sum_congr rfl fun d _ => (mul_comm _ _).trans (congrArg₂ (· * ·) ?_ ?_)) <;>
    exact congrArg₂ (fun r k => z (ix2 r k)) (Fin.ext (by dsimp only; omega)) (Fin.ext (by dsimp only; omega))

variable (z : FVec Ideal S2048x15360 .bf16) (sink : FVec Ideal S16 .f32) (b : Fin 8) (h g : Fin 4) (q j : Fin 256) (d : Fin 128)

theorem reference_sink : val_main_v14 (F := Ideal) sink (ix4 b h g q) = sink (ix1 ⟨4 * h.val + g.val, by omega⟩) := by
  unfold val_main_v14 val_main_v12 val_main_v11
  pointwise
  exact congrArg (fun k => sink (ix1 k)) (Fin.ext (by dsimp only; omega))

/-- A maximum over the last of five axes, at a place. -/
theorem greatest_apply {n0 n1 n2 n3 n4 : ℕ} {u : Shape} (x : FVec Ideal ⟨5, ![n0, n1, n2, n3, n4]⟩ .f32) (init : u.Idx → Ideal .f32)
    (hr : (⟨5, ![n0, n1, n2, n3, n4]⟩ : Shape).ReducesTo [4] ⟨4, ![n0, n1, n2, n3]⟩) (hu : 0 < u.numel)
    (i : Fin n0) (j : Fin n1) (k : Fin n2) (l : Fin n3) :
    Host.reduce FloatOps.maximumf x init hr hu (ix4 i j k l)
      = (Finset.univ : Finset (Fin n4)).fold max (init (Shape.Idx.first hu)) fun o => x (ix5 i j k l o) :=
  (Host.reduce_eq_fold FloatOps.maximumf x init hr hu _).trans
    (Shape.ReducesTo.fold_fiber_r5_a4 hr _ (FloatOps.maximumf (F := Ideal) (φ := .f32)) _ _)

theorem reference_greatest : val_main_v13 (F := Ideal) z (ix4 b h g q)
    = (Finset.univ : Finset (Fin 256)).fold max ⊥ fun j => val_main_v10 (F := Ideal) z (ix5 b h g q j) := by
  unfold val_main_v13
  generalize val_main_v10 (F := Ideal) z = s
  exact greatest_apply s _ reducesTo_S8x4x4x256x256_S8x4x4x256_d4 h_S_ b h g q

theorem reference_peak : val_main_v15 (F := Ideal) z sink (ix4 b h g q)
    = peak (fun j => val_main_v10 (F := Ideal) z (ix5 b h g q j)) (val_main_v14 (F := Ideal) sink (ix4 b h g q)) := by
  rw [val_main_v15_apply, reference_greatest]
  unfold peak
  generalize val_main_v14 (F := Ideal) sink (ix4 b h g q) = u
  exact rfl

theorem reference_exp : val_main_v19 (F := Ideal) z sink (ix5 b h g q j)
    = Ideal.exp (val_main_v10 (F := Ideal) z (ix5 b h g q j) - val_main_v15 (F := Ideal) z sink (ix4 b h g q)) := by
  unfold val_main_v19 val_main_v18 val_main_v17 val_main_v16
  generalize val_main_v10 (F := Ideal) z = s
  generalize val_main_v15 (F := Ideal) z sink = p
  pointwise

theorem reference_total : val_main_v24 (F := Ideal) z sink (ix4 b h g q)
    = (∑ j : Fin 256, val_main_v19 (F := Ideal) z sink (ix5 b h g q j))
      + Ideal.exp (val_main_v14 (F := Ideal) sink (ix4 b h g q) - val_main_v15 (F := Ideal) z sink (ix4 b h g q)) := by
  show val_main_v24 (F := Ideal) z sink (ix4 b h g q) = _ + Ideal.exp (val_main_v21 (F := Ideal) sink (ix4 b h g q) - _)
  unfold val_main_v24 val_main_v23 val_main_v22 val_main_v20 val_main_cst_1
  generalize val_main_v19 (F := Ideal) z sink = e
  generalize val_main_v15 (F := Ideal) z sink = p
  generalize val_main_v21 (F := Ideal) sink = u
  pointwise

theorem reference_weight : val_main_v27 (F := Ideal) z sink (ix5 b h g q j)
    = Ideal.div (val_main_v19 (F := Ideal) z sink (ix5 b h g q j)) (val_main_v24 (F := Ideal) z sink (ix4 b h g q)) := by
  unfold val_main_v27 val_main_v26 val_main_v25
  generalize val_main_v19 (F := Ideal) z sink = e
  generalize val_main_v24 (F := Ideal) z sink = n
  pointwise

theorem reference_value : val_main_v6 (F := Ideal) z (ix4 b j h d)
    = value z ⟨256 * b.val + q.val, by omega⟩ ⟨4 * h.val + g.val, by omega⟩ d j := by
  unfold val_main_v6 val_main_v5 val_main_v0 value
  pointwise
  exact congrArg₂ (fun r k => z (ix2 r k)) (Fin.ext (by dsimp only; omega)) (Fin.ext (by dsimp only; omega))

theorem reference_product : val_main_v28 (F := Ideal) z sink (ix5 b h d g q)
    = ∑ j : Fin 256, val_main_v6 (F := Ideal) z (ix4 b j h d) * val_main_v27 (F := Ideal) z sink (ix5 b h g q j) := by
  unfold val_main_v28
  generalize val_main_v6 (F := Ideal) z = v
  generalize val_main_v27 (F := Ideal) z sink = w
  pointwise

theorem reference_output : val_main_v28 (F := Ideal) z sink (ix5 b h d g q)
    = output z sink ⟨256 * b.val + q.val, by omega⟩ ⟨4 * h.val + g.val, by omega⟩ d := by
  have hs : (fun j => val_main_v10 (F := Ideal) z (ix5 b h g q j))
      = score z ⟨256 * b.val + q.val, by omega⟩ ⟨4 * h.val + g.val, by omega⟩ := funext fun j => reference_score z b h g q j
  have hp := (reference_peak z sink b h g q).trans (congrArg₂ peak hs (reference_sink sink b h g q))
  have he := fun j => (reference_exp z sink b h g q j).trans
    (congrArg₂ (fun x p => Ideal.exp (x - p)) (reference_score z b h g q j) hp)
  have hn := (reference_total z sink b h g q).trans (congrArg₂ (· + ·) (Finset.sum_congr rfl fun j _ => he j)
    (congrArg₂ (fun x p => Ideal.exp (x - p)) (reference_sink sink b h g q) hp))
  refine (reference_product z sink b h g q d).trans ?_
  unfold output attend total
  exact Finset.sum_congr rfl fun j _ => (congrArg₂ (· * ·) (reference_value z b h g q j d)
    ((reference_weight z sink b h g q j).trans (congrArg₂ Ideal.div (he j) hn))).trans (mul_comm _ _)

/-- The reference's result. -/
theorem reference_result : val_main_v31 (F := Ideal) z sink = outputs z sink := by
  funext y
  obtain ⟨r, k, rfl⟩ : ∃ (r : Fin 2048) (k : Fin 2048), y = ix2 r k := ⟨y 0, y 1, eq_ix2 y⟩
  have h : val_main_v31 (F := Ideal) z sink (ix2 r k) = val_main_v28 (F := Ideal) z sink
      (ix5 ⟨r.val / 256, by omega⟩ ⟨k.val / 128 / 4, by omega⟩ ⟨k.val % 128, by omega⟩ ⟨k.val / 128 % 4, by omega⟩
        ⟨r.val % 256, by omega⟩) := by
    unfold val_main_v31 val_main_v30 val_main_v29
    generalize val_main_v28 (F := Ideal) z sink = o
    pointwise
    exact congrArg (fun e => o (ix5 _ e _ _ _)) (Fin.ext (by dsimp only; omega))
  refine h.trans ((reference_output z sink _ _ _ _ _).trans ?_)
  unfold outputs
  show output z sink _ _ _ = output z sink r ⟨k.val / 128, by omega⟩ ⟨k.val % 128, by omega⟩
  exact congrArg₂ (fun r h => output z sink r h _) (Fin.ext (by dsimp only; omega)) (Fin.ext (by dsimp only; omega))

end Cert.ContextAttention

end
-- ==== Proof.ContextAttention.lean ====
/-
  The context stream's attention. From finite queries, keys and sinks the kernel, which multiplies every weight by the
  reciprocal of its row's denominator, ends with the reference's quotients.
-/
module

public import proofs.«01_k».proof.Defs
public import proofs.«01_k».proof.Proof.ContextKernel
public import proofs.«01_k».proof.Proof.ContextReference
public import proofs.«01_k».proof.Proof.Gen.Pre_finite
public import proofs.«01_k».proof.Proof.Gen.Ctx.Frame

@[expose] public section

set_option maxRecDepth 16384

noncomputable section

open Idealize.ShloMosaic Idealize.ShloMosaic.TcCoe Idealize.SL.Sem

namespace Cert.ContextAttention

open Cert.CtxIdeal

/-- A value whose magnitude compares less than infinity is a number. -/
theorem number_of_less {x : Ideal .f32}
    (h : BitVec.ofBool (decide (FloatOps.absf (F := Ideal) x < Ideal.ofBits .f32 2139095040#32)) = 1#1) : Number x := by
  by_cases hx : FloatOps.absf (F := Ideal) x < Ideal.ofBits .f32 2139095040#32
  · exact Number.of_abs hx
  · rw [decide_eq_false hx] at h
    exact absurd h (by decide)

/-- What the precondition says of the queries, the keys and the sinks. -/
theorem finite_args (z : FVec Ideal S2048x15360 .bf16) (sink : FVec Ideal S16 .f32)
    (h : (Cert.Pre_finite.fn (F := Ideal) z sink).1 = (fun _ => 1#1) ∧ (Cert.Pre_finite.fn (F := Ideal) z sink).2 = fun _ => 1#1) :
    (∀ (r : Fin 2048) (k : Fin 15360), k.val < 2560 → Number (z (ix2 r k))) ∧ ∀ k : Fin 16, Number (sink (ix1 k)) := by
  refine ⟨fun r k hk => ?_, fun k => ?_⟩
  · have h1 := congrFun h.1 (ix2 r ⟨k.val, hk⟩)
    unfold Cert.Pre_finite.fn at h1
    pointwise at h1
    exact number_of_less h1
  · have h1 := congrFun h.2 (ix1 k)
    unfold Cert.Pre_finite.fn at h1
    pointwise at h1
    exact number_of_less h1

/-- Both programs from agreeing arguments end with the same result. -/
theorem agree : Cert.algebraic_CtxIdeal_CtxRefIdeal_pre_finite := fun m ρ m' ρ' hp hag =>
  ⟨fun c => outputs (m ((c : Thread nD τ).loc main_arg0)) (m ((c : Thread nD τ).loc main_arg1)),
    (θ_run Cert.CtxIdeal.defs _ _).mono (fun _ h c => ⟨(h c).1.trans
        (kernel_result m c (finite_args _ _ (hp c)).1 (finite_args _ _ (hp c)).2), (h c).2⟩)
      (Cert.CtxIdeal.Value.run_blocks m ρ),
    (θ_run Cert.CtxRefIdeal.defs _ _).mono (fun _ h c => ⟨(h c).1.trans (by
        refine (Cert.CtxRefIdeal.Read.val_main_v31_eq ..).trans ((reference_result ..).trans ?_)
        rw [(hag c).1, (hag c).2]), (h c).2⟩)
      (Cert.CtxRefIdeal.Value.run m' ρ')⟩

/-- Under the precondition or without it the programs run and leave their arguments alone. -/
theorem frame_kernel : Cert.quiescent_Ctx := fun m ρ _ => Cert.Ctx.Gen.frame m ρ
theorem frame_ideal : Cert.quiescent_CtxIdeal := fun m ρ _ => Cert.CtxIdeal.Gen.frame m ρ
theorem frame_ideal_finite : Cert.quiescent_CtxIdeal_pre_finite := fun m ρ _ => Cert.CtxIdeal.Gen.frame m ρ
theorem frame_reference : Cert.quiescent_CtxRefIdeal := fun m ρ _ =>
  (θ_run Cert.CtxRefIdeal.defs _ _).mono (fun r h => ⟨fun c => (h c).2,
      Idealize.ShloMosaic.sem_eq_zero_of_no_sems (by decide) r.2⟩)
    (Cert.CtxRefIdeal.Value.run (F := Ideal) m ρ)
theorem frame_reference_finite : Cert.quiescent_CtxRefIdeal_pre_finite := fun m ρ _ => frame_reference m ρ trivial

end Cert.ContextAttention

end
-- ==== Proof.lean ====
/-
  The claim: every call runs and leaves its arguments alone, and agrees with its reference over the extended reals.
-/
module

public import proofs.«01_k».proof.Defs
public import proofs.«01_k».proof.Proof.Merge
public import proofs.«01_k».proof.Proof.FfnUp
public import proofs.«01_k».proof.Proof.FfnDown
public import proofs.«01_k».proof.Proof.OutProj
public import proofs.«01_k».proof.Proof.Norm
public import proofs.«01_k».proof.Proof.InProj
public import proofs.«01_k».proof.Proof.ContextAttention

@[expose] public section

namespace Cert.Proof

open Idealize.ShloMosaic Cert

theorem claim : Cert.Claim :=
  ⟨Cert.Merge.Gen.facts, Cert.MergeIdeal.Gen.facts, Cert.MergeRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Out.Gen.facts, Cert.OutIdeal.Gen.facts, Cert.OutRefIdeal.Gen.facts,
    Cert.Norm.Gen.facts, Cert.NormIdeal.Gen.facts, Cert.NormRefIdeal.Gen.facts,
    Cert.InProj.Gen.facts, Cert.InProjIdeal.Gen.facts, Cert.InProjRefIdeal.Gen.facts,
    Cert.Ctx.Gen.facts, Cert.CtxIdeal.Gen.facts, Cert.CtxRefIdeal.Gen.facts, Cert.Pre_finite.Gen.facts,
    Mixers.frame_kernel, Mixers.frame_ideal, Mixers.frame_reference,
    FfnUp.frame_kernel, FfnUp.frame_ideal, FfnUp.frame_reference,
    FfnDown.frame_kernel, FfnDown.frame_ideal, FfnDown.frame_reference,
    OutProj.frame_kernel, OutProj.frame_ideal, OutProj.frame_reference,
    LastNorm.frame_kernel, LastNorm.frame_ideal, LastNorm.frame_reference,
    Projection.frame_kernel, Projection.frame_ideal, Projection.frame_reference,
    ContextAttention.frame_kernel, ContextAttention.frame_ideal, ContextAttention.frame_ideal_finite,
    ContextAttention.frame_reference, ContextAttention.frame_reference_finite,
    trivial, Mixers.agree,
    trivial, FfnUp.agree,
    trivial, FfnDown.agree,
    trivial, OutProj.agree,
    trivial, LastNorm.agree,
    trivial, Projection.agree,
    trivial, ContextAttention.agree⟩

end Cert.Proof

end
